-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x2560 : Shape := ⟨2, ![1536, 2560]⟩
abbrev S2560x6912 : Shape := ⟨2, ![2560, 6912]⟩
abbrev S20x54 : Shape := ⟨2, ![20, 54]⟩
abbrev S2x768x6912 : Shape := ⟨3, ![2, 768, 6912]⟩
abbrev S2x6912x768 : Shape := ⟨3, ![2, 6912, 768]⟩
abbrev S1536x6912 : Shape := ⟨2, ![1536, 6912]⟩
abbrev S54x2x768 : Shape := ⟨3, ![54, 2, 768]⟩
abbrev S6x2x6912 : Shape := ⟨3, ![6, 2, 6912]⟩
abbrev S2560x256 : Shape := ⟨2, ![2560, 256]⟩
abbrev S2x768x256 : Shape := ⟨3, ![2, 768, 256]⟩
abbrev S2x256x768 : Shape := ⟨3, ![2, 256, 768]⟩
abbrev S1536x256 : Shape := ⟨2, ![1536, 256]⟩
abbrev S2x2x768 : Shape := ⟨3, ![2, 2, 768]⟩
abbrev S6x2x256 : Shape := ⟨3, ![6, 2, 256]⟩
abbrev S2560x512 : Shape := ⟨2, ![2560, 512]⟩
abbrev S1536x512 : Shape := ⟨2, ![1536, 512]⟩
abbrev S128x128 : Shape := ⟨2, ![128, 128]⟩
abbrev S1x1 : Shape := ⟨2, ![1, 1]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S1x128 : Shape := ⟨2, ![1, 128]⟩
abbrev S256x1 : Shape := ⟨2, ![256, 1]⟩
abbrev S256x128 : Shape := ⟨2, ![256, 128]⟩
abbrev S1x128x128 : Shape := ⟨3, ![1, 128, 128]⟩
abbrev S1x1x128 : Shape := ⟨3, ![1, 1, 128]⟩
abbrev S256x2560 : Shape := ⟨2, ![256, 2560]⟩
abbrev S256x512 : Shape := ⟨2, ![256, 512]⟩

abbrev nBuf : Space → Nat
  | .hbm => 10
  | .vmem => 17
  | .smem => 2
  | _ => 0

abbrev bufTy : (tb : Table) → Fin (tcTables nBuf tb) → BufTy
  | .hbm, ⟨0, _⟩ => ⟨S1536x2560, .bf16⟩
  | .hbm, ⟨1, _⟩ => ⟨S2560x6912, .fp8e4m3⟩
  | .hbm, ⟨2, _⟩ => ⟨S2560x6912, .fp8e4m3⟩
  | .hbm, ⟨3, _⟩ => ⟨S20x54, .f32⟩
  | .hbm, ⟨4, _⟩ => ⟨S20x54, .f32⟩
  | .hbm, ⟨5, _⟩ => ⟨S2x768x6912, .fp8e4m3⟩
  | .hbm, ⟨6, _⟩ => ⟨S2x6912x768, .fp8e4m3⟩
  | .hbm, ⟨7, _⟩ => ⟨S1536x6912, .bf16⟩
  | .hbm, ⟨8, _⟩ => ⟨S54x2x768, .f32⟩
  | .hbm, ⟨9, _⟩ => ⟨S6x2x6912, .f32⟩
  | .local _ .vmem, ⟨0, _⟩ => ⟨S1536x2560, .bf16⟩
  | .local _ .vmem, ⟨1, _⟩ => ⟨S2560x256, .fp8e4m3⟩
  | .local _ .vmem, ⟨2, _⟩ => ⟨S2560x256, .fp8e4m3⟩
  | .local _ .vmem, ⟨3, _⟩ => ⟨S2560x256, .fp8e4m3⟩
  | .local _ .vmem, ⟨4, _⟩ => ⟨S2560x256, .fp8e4m3⟩
  | .local _ .vmem, ⟨5, _⟩ => ⟨S2x768x256, .fp8e4m3⟩
  | .local _ .vmem, ⟨6, _⟩ => ⟨S2x768x256, .fp8e4m3⟩
  | .local _ .vmem, ⟨7, _⟩ => ⟨S2x256x768, .fp8e4m3⟩
  | .local _ .vmem, ⟨8, _⟩ => ⟨S2x256x768, .fp8e4m3⟩
  | .local _ .vmem, ⟨9, _⟩ => ⟨S1536x256, .bf16⟩
  | .local _ .vmem, ⟨10, _⟩ => ⟨S1536x256, .bf16⟩
  | .local _ .vmem, ⟨11, _⟩ => ⟨S2x2x768, .f32⟩
  | .local _ .vmem, ⟨12, _⟩ => ⟨S2x2x768, .f32⟩
  | .local _ .vmem, ⟨13, _⟩ => ⟨S6x2x256, .f32⟩
  | .local _ .vmem, ⟨14, _⟩ => ⟨S6x2x256, .f32⟩
  | .local _ .vmem, ⟨15, _⟩ => ⟨S2560x512, .bf16⟩
  | .local _ .vmem, ⟨16, _⟩ => ⟨S1536x512, .f32⟩
  | .local _ .smem, ⟨0, _⟩ => ⟨S20x54, .f32⟩
  | .local _ .smem, ⟨1, _⟩ => ⟨S20x54, .f32⟩
  | _, _ => ⟨S1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c27_i32 : BitVec 32 := 27#32
  let v3 : BitVec 1 := Scalar.cmpi .slt arg0 c27_i32
  let v4 : BitVec 32 := Scalar.extui v3
  let c0_i32_1 : BitVec 32 := 0#32
  let v5 : BitVec 1 := Scalar.cmpi .ne v4 c0_i32_1
  v5

def k0_off1 (i : grid0.Coords) (c0_i32_4 : BitVec 32) : Fin 2 → Nat :=
  let c0_6 : Index := 0#32
  let c2_i32 : BitVec 32 := 2#32
  let arg0 : BitVec 32 := BitVec.ofNat 32 (i 0).val
  let v9 : BitVec 32 := Scalar.muli c2_i32 arg0
  let v10 : BitVec 32 := Scalar.addi v9 c0_i32_4
  let v13 : Index := Scalar.indexCast v10
  ![0, v13.toNat]
def k0_off2 (i : grid0.Coords) (c0_i32_27 : BitVec 32) : Fin 2 → Nat :=
  let c1 : Index := 1#32
  let c2_i32_26 : BitVec 32 := 2#32
  let arg0 : BitVec 32 := BitVec.ofNat 32 (i 0).val
  let v57 : BitVec 32 := Scalar.muli c2_i32_26 arg0
  let v58 : BitVec 32 := Scalar.addi v57 c0_i32_27
  let v61 : Index := Scalar.indexCast v58
  ![1, v61.toNat]
def k0_off3 (i : grid0.Coords) (c0_i32_54 : BitVec 32) : Fin 2 → Nat :=
  let c2 : Index := 2#32
  let c2_i32_53 : BitVec 32 := 2#32
  let arg0 : BitVec 32 := BitVec.ofNat 32 (i 0).val
  let v105 : BitVec 32 := Scalar.muli c2_i32_53 arg0
  let v106 : BitVec 32 := Scalar.addi v105 c0_i32_54
  let v109 : Index := Scalar.indexCast v106
  ![2, v109.toNat]
def k0_off4 (i : grid0.Coords) (c0_i32_81 : BitVec 32) : Fin 2 → Nat :=
  let c3 : Index := 3#32
  let c2_i32_80 : BitVec 32 := 2#32
  let arg0 : BitVec 32 := BitVec.ofNat 32 (i 0).val
  let v153 : BitVec 32 := Scalar.muli c2_i32_80 arg0
  let v154 : BitVec 32 := Scalar.addi v153 c0_i32_81
  let v157 : Index := Scalar.indexCast v154
  ![3, v157.toNat]
def k0_off5 (i : grid0.Coords) (c0_i32_108 : BitVec 32) : Fin 2 → Nat :=
  let c4 : Index := 4#32
  let c2_i32_107 : BitVec 32 := 2#32
  let arg0 : BitVec 32 := BitVec.ofNat 32 (i 0).val
  let v201 : BitVec 32 := Scalar.muli c2_i32_107 arg0
  let v202 : BitVec 32 := Scalar.addi v201 c0_i32_108
  let v205 : Index := Scalar.indexCast v202
  ![4, v205.toNat]
def k0_off6 (i : grid0.Coords) (c0_i32_134 : BitVec 32) : Fin 2 → Nat :=
  let c5 : Index := 5#32
  let c2_i32_133 : BitVec 32 := 2#32
  let arg0 : BitVec 32 := BitVec.ofNat 32 (i 0).val
  let v249 : BitVec 32 := Scalar.muli c2_i32_133 arg0
  let v250 : BitVec 32 := Scalar.addi v249 c0_i32_134
  let v253 : Index := Scalar.indexCast v250
  ![5, v253.toNat]
def k0_off7 (i : grid0.Coords) (c0_i32_160 : BitVec 32) : Fin 2 → Nat :=
  let c6 : Index := 6#32
  let c2_i32_159 : BitVec 32 := 2#32
  let arg0 : BitVec 32 := BitVec.ofNat 32 (i 0).val
  let v297 : BitVec 32 := Scalar.muli c2_i32_159 arg0
  let v298 : BitVec 32 := Scalar.addi v297 c0_i32_160
  let v301 : Index := Scalar.indexCast v298
  ![6, v301.toNat]
def k0_off8 (i : grid0.Coords) (c0_i32_186 : BitVec 32) : Fin 2 → Nat :=
  let c7 : Index := 7#32
  let c2_i32_185 : BitVec 32 := 2#32
  let arg0 : BitVec 32 := BitVec.ofNat 32 (i 0).val
  let v345 : BitVec 32 := Scalar.muli c2_i32_185 arg0
  let v346 : BitVec 32 := Scalar.addi v345 c0_i32_186
  let v349 : Index := Scalar.indexCast v346
  ![7, v349.toNat]
def k0_off9 (i : grid0.Coords) (c0_i32_212 : BitVec 32) : Fin 2 → Nat :=
  let c8 : Index := 8#32
  let c2_i32_211 : BitVec 32 := 2#32
  let arg0 : BitVec 32 := BitVec.ofNat 32 (i 0).val
  let v393 : BitVec 32 := Scalar.muli c2_i32_211 arg0
  let v394 : BitVec 32 := Scalar.addi v393 c0_i32_212
  let v397 : Index := Scalar.indexCast v394
  ![8, v397.toNat]
def k0_off10 (i : grid0.Coords) (c0_i32_238 : BitVec 32) : Fin 2 → Nat :=
  let c9 : Index := 9#32
  let c2_i32_237 : BitVec 32 := 2#32
  let arg0 : BitVec 32 := BitVec.ofNat 32 (i 0).val
  let v441 : BitVec 32 := Scalar.muli c2_i32_237 arg0
  let v442 : BitVec 32 := Scalar.addi v441 c0_i32_238
  let v445 : Index := Scalar.indexCast v442
  ![9, v445.toNat]
def k0_off11 (i : grid0.Coords) (c0_i32_264 : BitVec 32) : Fin 2 → Nat :=
  let c10 : Index := 10#32
  let c2_i32_263 : BitVec 32 := 2#32
  let arg0 : BitVec 32 := BitVec.ofNat 32 (i 0).val
  let v489 : BitVec 32 := Scalar.muli c2_i32_263 arg0
  let v490 : BitVec 32 := Scalar.addi v489 c0_i32_264
  let v493 : Index := Scalar.indexCast v490
  ![10, v493.toNat]
def k0_off12 (i : grid0.Coords) (c0_i32_290 : BitVec 32) : Fin 2 → Nat :=
  let c11 : Index := 11#32
  let c2_i32_289 : BitVec 32 := 2#32
  let arg0 : BitVec 32 := BitVec.ofNat 32 (i 0).val
  let v537 : BitVec 32 := Scalar.muli c2_i32_289 arg0
  let v538 : BitVec 32 := Scalar.addi v537 c0_i32_290
  let v541 : Index := Scalar.indexCast v538
  ![11, v541.toNat]
def k0_off13 (i : grid0.Coords) (c0_i32_316 : BitVec 32) : Fin 2 → Nat :=
  let c12 : Index := 12#32
  let c2_i32_315 : BitVec 32 := 2#32
  let arg0 : BitVec 32 := BitVec.ofNat 32 (i 0).val
  let v585 : BitVec 32 := Scalar.muli c2_i32_315 arg0
  let v586 : BitVec 32 := Scalar.addi v585 c0_i32_316
  let v589 : Index := Scalar.indexCast v586
  ![12, v589.toNat]
def k0_off14 (i : grid0.Coords) (c0_i32_342 : BitVec 32) : Fin 2 → Nat :=
  let c13 : Index := 13#32
  let c2_i32_341 : BitVec 32 := 2#32
  let arg0 : BitVec 32 := BitVec.ofNat 32 (i 0).val
  let v633 : BitVec 32 := Scalar.muli c2_i32_341 arg0
  let v634 : BitVec 32 := Scalar.addi v633 c0_i32_342
  let v637 : Index := Scalar.indexCast v634
  ![13, v637.toNat]
def k0_off15 (i : grid0.Coords) (c0_i32_368 : BitVec 32) : Fin 2 → Nat :=
  let c14 : Index := 14#32
  let c2_i32_367 : BitVec 32 := 2#32
  let arg0 : BitVec 32 := BitVec.ofNat 32 (i 0).val
  let v681 : BitVec 32 := Scalar.muli c2_i32_367 arg0
  let v682 : BitVec 32 := Scalar.addi v681 c0_i32_368
  let v685 : Index := Scalar.indexCast v682
  ![14, v685.toNat]
def k0_off16 (i : grid0.Coords) (c0_i32_394 : BitVec 32) : Fin 2 → Nat :=
  let c15 : Index := 15#32
  let c2_i32_393 : BitVec 32 := 2#32
  let arg0 : BitVec 32 := BitVec.ofNat 32 (i 0).val
  let v729 : BitVec 32 := Scalar.muli c2_i32_393 arg0
  let v730 : BitVec 32 := Scalar.addi v729 c0_i32_394
  let v733 : Index := Scalar.indexCast v730
  ![15, v733.toNat]
def k0_off17 (i : grid0.Coords) (c0_i32_420 : BitVec 32) : Fin 2 → Nat :=
  let c16 : Index := 16#32
  let c2_i32_419 : BitVec 32 := 2#32
  let arg0 : BitVec 32 := BitVec.ofNat 32 (i 0).val
  let v777 : BitVec 32 := Scalar.muli c2_i32_419 arg0
  let v778 : BitVec 32 := Scalar.addi v777 c0_i32_420
  let v781 : Index := Scalar.indexCast v778
  ![16, v781.toNat]
def k0_off18 (i : grid0.Coords) (c0_i32_446 : BitVec 32) : Fin 2 → Nat :=
  let c17 : Index := 17#32
  let c2_i32_445 : BitVec 32 := 2#32
  let arg0 : BitVec 32 := BitVec.ofNat 32 (i 0).val
  let v825 : BitVec 32 := Scalar.muli c2_i32_445 arg0
  let v826 : BitVec 32 := Scalar.addi v825 c0_i32_446
  let v829 : Index := Scalar.indexCast v826
  ![17, v829.toNat]
def k0_off19 (i : grid0.Coords) (c0_i32_472 : BitVec 32) : Fin 2 → Nat :=
  let c18 : Index := 18#32
  let c2_i32_471 : BitVec 32 := 2#32
  let arg0 : BitVec 32 := BitVec.ofNat 32 (i 0).val
  let v873 : BitVec 32 := Scalar.muli c2_i32_471 arg0
  let v874 : BitVec 32 := Scalar.addi v873 c0_i32_472
  let v877 : Index := Scalar.indexCast v874
  ![18, v877.toNat]
def k0_off20 (i : grid0.Coords) (c0_i32_498 : BitVec 32) : Fin 2 → Nat :=
  let c19 : Index := 19#32
  let c2_i32_497 : BitVec 32 := 2#32
  let arg0 : BitVec 32 := BitVec.ofNat 32 (i 0).val
  let v921 : BitVec 32 := Scalar.muli c2_i32_497 arg0
  let v922 : BitVec 32 := Scalar.addi v921 c0_i32_498
  let v925 : Index := Scalar.indexCast v922
  ![19, v925.toNat]
def k0_cond3 (i : grid0.Coords) : BitVec 1 :=
  let arg0 : BitVec 32 := BitVec.ofNat 32 (i 0).val
  let c27_i32_2 : BitVec 32 := 27#32
  let v6 : BitVec 1 := Scalar.cmpi .eq arg0 c27_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

abbrev stage0_0 : Fin 1 → Memref sig .tc .vmem S1536x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S20x54 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S20x54 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x768x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x768 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1536x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1536x2560 : Shape := ⟨2, ![1536, 2560]⟩
abbrev S2560x6912 : Shape := ⟨2, ![2560, 6912]⟩
abbrev S20x54 : Shape := ⟨2, ![20, 54]⟩
abbrev S2x768x6912 : Shape := ⟨3, ![2, 768, 6912]⟩
abbrev S2x6912x768 : Shape := ⟨3, ![2, 6912, 768]⟩
abbrev S1536x6912 : Shape := ⟨2, ![1536, 6912]⟩
abbrev S54x2x768 : Shape := ⟨3, ![54, 2, 768]⟩
abbrev S6x2x6912 : Shape := ⟨3, ![6, 2, 6912]⟩
abbrev S20x128x54x128 : Shape := ⟨4, ![20, 128, 54, 128]⟩
abbrev S20x1x54x1 : Shape := ⟨4, ![20, 1, 54, 1]⟩
abbrev S2x768x54x128 : Shape := ⟨4, ![2, 768, 54, 128]⟩
abbrev S2x768x54 : Shape := ⟨3, ![2, 768, 54]⟩
abbrev S2x768x54x256 : Shape := ⟨4, ![2, 768, 54, 256]⟩
abbrev S2x768x54x1 : Shape := ⟨4, ![2, 768, 54, 1]⟩
abbrev S2x6912x6x128 : Shape := ⟨4, ![2, 6912, 6, 128]⟩
abbrev S2x6912x6 : Shape := ⟨3, ![2, 6912, 6]⟩
abbrev S2x6912x6x256 : Shape := ⟨4, ![2, 6912, 6, 256]⟩
abbrev S2x6912x6x1 : Shape := ⟨4, ![2, 6912, 6, 1]⟩

abbrev nBuf : Space → Nat
  | .hbm => 10
  | .vmem => 10
  | .smem => 0
  | _ => 0

abbrev bufTy : (tb : Table) → Fin (tcTables nBuf tb) → BufTy
  | .hbm, ⟨0, _⟩ => ⟨S1536x2560, .bf16⟩
  | .hbm, ⟨1, _⟩ => ⟨S2560x6912, .fp8e4m3⟩
  | .hbm, ⟨2, _⟩ => ⟨S2560x6912, .fp8e4m3⟩
  | .hbm, ⟨3, _⟩ => ⟨S20x54, .f32⟩
  | .hbm, ⟨4, _⟩ => ⟨S20x54, .f32⟩
  | .hbm, ⟨5, _⟩ => ⟨S2x768x6912, .fp8e4m3⟩
  | .hbm, ⟨6, _⟩ => ⟨S2x6912x768, .fp8e4m3⟩
  | .hbm, ⟨7, _⟩ => ⟨S1536x6912, .bf16⟩
  | .hbm, ⟨8, _⟩ => ⟨S54x2x768, .f32⟩
  | .hbm, ⟨9, _⟩ => ⟨S6x2x6912, .f32⟩
  | .local _ .vmem, ⟨0, _⟩ => ⟨S1536x2560, .bf16⟩
  | .local _ .vmem, ⟨1, _⟩ => ⟨S2560x6912, .fp8e4m3⟩
  | .local _ .vmem, ⟨2, _⟩ => ⟨S2560x6912, .fp8e4m3⟩
  | .local _ .vmem, ⟨3, _⟩ => ⟨S20x54, .f32⟩
  | .local _ .vmem, ⟨4, _⟩ => ⟨S20x54, .f32⟩
  | .local _ .vmem, ⟨5, _⟩ => ⟨S2x768x6912, .fp8e4m3⟩
  | .local _ .vmem, ⟨6, _⟩ => ⟨S2x6912x768, .fp8e4m3⟩
  | .local _ .vmem, ⟨7, _⟩ => ⟨S1536x6912, .bf16⟩
  | .local _ .vmem, ⟨8, _⟩ => ⟨S54x2x768, .f32⟩
  | .local _ .vmem, ⟨9, _⟩ => ⟨S6x2x6912, .f32⟩
  | _, _ => ⟨S1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1536x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x6912 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x54 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x54 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x6912 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x6912x768 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x6912 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S54x2x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x2x6912 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Scale.lean ====
module

public import Idealize.ShloMosaic.PureOps.Ideal
public import Idealize.ShloMosaic.Lib.Pointwise

/-! The quantiser's scale. The kernel finds the exponent field of the block's greatest magnitude (divided by
448) as a maximum over the 256 fields, and builds the scale and its inverse from the field's bits; the
reference takes the least power of two above that quotient. Here both are shown to be the same extended real,
for every quotient. -/

@[expose] public section

noncomputable section

namespace Cert.QuantScale

open Idealize.ShloMosaic

/-- Two to an integer power, as an extended real. -/
def p2 (z : ℤ) : EReal := (((2 : ℝ) ^ z : ℝ) : EReal)

theorem p2_le {a b : ℤ} : p2 a ≤ p2 b ↔ a ≤ b := by
  unfold p2
  rw [EReal.coe_le_coe_iff]
  exact zpow_le_zpow_iff_right₀ (by norm_num)

theorem p2_lt {a b : ℤ} : p2 a < p2 b ↔ a < b := by
  unfold p2
  rw [EReal.coe_lt_coe_iff]
  exact zpow_lt_zpow_iff_right₀ (by norm_num)

theorem p2_ne_zero (a : ℤ) : p2 a ≠ 0 := by
  unfold p2
  rw [Ne, EReal.coe_eq_zero]
  positivity

theorem p2_inv (a : ℤ) : (p2 a)⁻¹ = p2 (-a) := by
  unfold p2
  rw [← EReal.coe_inv, zpow_neg]

theorem div_one_p2 (a : ℤ) : Ideal.div 1 (p2 a) = p2 (-a) := by
  unfold Ideal.div
  rw [if_neg (p2_ne_zero a), one_mul, p2_inv]

theorem div_one_one : Ideal.div 1 1 = 1 := by
  have h := div_one_p2 0
  simpa [p2] using h

/-- The bits of a float32 whose exponent field is `K` and whose other bits are 0. -/
def pat (K : ℕ) : BitVec 32 := BitVec.ofNat 32 (K * 8388608)

theorem pat_toNat {K : ℕ} (h : K ≤ 255) : (pat K).toNat = K * 8388608 := by
  unfold pat
  rw [BitVec.toNat_ofNat]
  omega

/-- What those bits are worth. -/
theorem ofBits_pat {K : ℕ} (h1 : 1 ≤ K) (h2 : K ≤ 254) : Ideal.ofBits .f32 (pat K) = p2 ((K : ℤ) - 127) := by
  have hn := pat_toNat (K := K) (by omega)
  have e1 : ((pat K).extractLsb' 23 8).toNat = K := by
    rw [BitVec.extractLsb'_toNat, hn, Nat.shiftRight_eq_div_pow]
    omega
  have e2 : ((pat K).extractLsb' 0 23).toNat = 0 := by
    rw [BitVec.extractLsb'_toNat, hn, Nat.shiftRight_eq_div_pow]
    omega
  have e3 : ((pat K).extractLsb' (8 + 23) 1 == 1#1) = false := by
    rw [beq_eq_false_iff_ne, Ne, ← BitVec.toNat_inj, BitVec.extractLsb'_toNat, hn, Nat.shiftRight_eq_div_pow]
    simp
    omega
  show Ideal.ieee 8 23 (pat K) = _
  unfold Ideal.ieee
  simp only [e1, e2, e3]
  rw [if_neg (by omega), if_neg (by omega)]
  unfold p2
  congr 1
  simp only [Bool.false_eq_true, if_false, one_mul, Nat.add_zero]
  have : ((K : ℤ) - 127) = 23 + ((K : ℤ) - (2 ^ (8 - 1) - 1) - 23) := by norm_num
  rw [this, zpow_add₀ (by norm_num)]
  norm_num

/-- The field `k` of the table, not above 246, shifted into place. -/
def entry (x : Fin 256) : BitVec 32 :=
  IntOp.shli ArithUnit.vector (IntOp.minsi (BitVec.ofNat 32 (x : ℕ)) 246#32) 23#32

theorem entry_eq : ∀ x : Fin 256, entry x = pat (min x.val 246) := by decide

/-- The exponent field of a quotient, as the kernel finds it. -/
def kE (v : EReal) : BitVec 32 :=
  Finset.fold IntOp.maxsi (2147483648#32) (fun x : Fin 256 => if Ideal.ofBits .f32 (entry x) ≤ v then entry x else 0#32) Finset.univ

theorem pat_toInt {K : ℕ} (h : K ≤ 246) : (pat K).toInt = K * 8388608 := by
  rw [BitVec.toInt_eq_toNat_cond, pat_toNat (by omega)]
  rw [if_pos (by omega)]
  push_cast
  rfl

theorem maxsi_pat {a b : ℕ} (ha : a ≤ 246) (hb : b ≤ 246) : IntOp.maxsi (pat a) (pat b) = pat (max a b) := by
  unfold IntOp.maxsi
  simp only [BitVec.slt_iff_toInt_lt, pat_toInt ha, pat_toInt hb]
  by_cases h : b < a
  · rw [if_pos (by omega), max_eq_left (by omega)]
  · rw [if_neg (by omega), max_eq_right (by omega)]

theorem maxsi_pat_min {a : ℕ} (ha : a ≤ 246) : IntOp.maxsi (pat a) (2147483648#32) = pat a := by
  unfold IntOp.maxsi
  have h : (2147483648#32).toInt = -2147483648 := by decide
  simp only [BitVec.slt_iff_toInt_lt, pat_toInt ha, h]
  rw [if_pos (by omega)]

theorem pat_zero : pat 0 = 0#32 := by decide

/-- The maximum over a set of fields is the pattern of the greatest field whose power of two is not above `v`
    (or of 0). -/
theorem fold_spec (v : EReal) (s : Finset (Fin 256)) :
    (s = ∅ ∧ Finset.fold IntOp.maxsi (2147483648#32) (fun x : Fin 256 => if Ideal.ofBits .f32 (entry x) ≤ v then entry x else 0#32) s = 2147483648#32) ∨
    ∃ K : ℕ, K ≤ 246 ∧ Finset.fold IntOp.maxsi (2147483648#32) (fun x : Fin 256 => if Ideal.ofBits .f32 (entry x) ≤ v then entry x else 0#32) s = pat K ∧
      (K = 0 ∨ p2 ((K : ℤ) - 127) ≤ v) ∧
      ∀ x ∈ s, 1 ≤ x.val → x.val ≤ 246 → p2 ((x.val : ℤ) - 127) ≤ v → x.val ≤ K := by
  induction s using Finset.induction_on with
  | empty => left; exact ⟨rfl, Finset.fold_empty⟩
  | insert a s ha ih =>
    right
    obtain ⟨k, hk, hv, hk2, hk3⟩ : ∃ k : ℕ, k ≤ 246 ∧ (if Ideal.ofBits .f32 (entry a) ≤ v then entry a else 0#32) = pat k ∧
        (k = 0 ∨ p2 ((k : ℤ) - 127) ≤ v) ∧ (1 ≤ a.val → a.val ≤ 246 → p2 ((a.val : ℤ) - 127) ≤ v → a.val ≤ k) := by
      rw [entry_eq a]
      by_cases h0 : a.val = 0
      · refine ⟨0, by omega, ?_, Or.inl rfl, by omega⟩
        rw [h0]
        simp [pat_zero]
      · rw [ofBits_pat (K := min a.val 246) (by omega) (by omega)]
        by_cases h : p2 (((min a.val 246 : ℕ) : ℤ) - 127) ≤ v
        · exact ⟨min a.val 246, by omega, if_pos h, Or.inr h, by omega⟩
        · refine ⟨0, by omega, by rw [if_neg h, pat_zero], Or.inl rfl, fun _ h2 h3 => ?_⟩
          rw [min_eq_left h2] at h
          exact absurd h3 h
    rw [Finset.fold_insert ha, hv]
    rcases ih with ⟨he, hf⟩ | ⟨K, hK, hf, hK2, hK3⟩
    · refine ⟨k, hk, by rw [hf, maxsi_pat_min hk], hk2, fun x hx => ?_⟩
      rw [he] at hx
      have : x = a := by simpa using hx
      subst this
      exact hk3
    · refine ⟨max k K, by omega, by rw [hf, maxsi_pat hk hK], ?_, fun x hx h1 h2 h3 => ?_⟩
      · rcases le_total k K with h | h
        · rw [max_eq_right h]; exact hK2
        · rw [max_eq_left h]; exact hk2
      · rcases Finset.mem_insert.1 hx with rfl | hx
        · exact le_max_of_le_left (hk3 h1 h2 h3)
        · exact le_max_of_le_right (hK3 x hx h1 h2 h3)

/-- The kernel's exponent field: the greatest `K ≤ 246` with `2^(K-127) ≤ v`, or 0. -/
theorem kE_spec (v : EReal) : ∃ K : ℕ, K ≤ 246 ∧ kE v = pat K ∧ (K = 0 ∨ p2 ((K : ℤ) - 127) ≤ v) ∧
    (K < 246 → v < p2 ((K : ℤ) - 126)) := by
  rcases fold_spec v Finset.univ with ⟨he, _⟩ | ⟨K, hK, hf, hK2, hK3⟩
  · exact absurd he (Finset.univ_nonempty).ne_empty
  · refine ⟨K, hK, hf, hK2, fun h => ?_⟩
    by_contra hn
    have hle : p2 (((⟨K + 1, by omega⟩ : Fin 256).val : ℤ) - 127) ≤ v := by
      have : (((⟨K + 1, by omega⟩ : Fin 256).val : ℤ) - 127) = (K : ℤ) - 126 := by push_cast; ring
      rw [this]
      exact not_lt.1 hn
    have := hK3 ⟨K + 1, by omega⟩ (Finset.mem_univ _) (by simp) (by simp; omega) hle
    simp at this

/-- The kernel's scale. -/
def kScale (v : EReal) : EReal :=
  Scalar.select (IntOp.cmpi .eq (kE v) 0#32) 1 (Ideal.ofBits .f32 (IntOp.addi (kE v) 8388608#32))

/-- The kernel's inverse of the scale. -/
def kInv (v : EReal) : EReal :=
  Scalar.select (IntOp.cmpi .eq (kE v) 0#32) 1 (Ideal.ofBits .f32 (IntOp.subi 2122317824#32 (kE v)))

/-- One candidate of the reference's scale: `2^(x-126)`. -/
def cand (x : Fin 256) : EReal :=
  FloatOps.exp2 (F := Ideal) (φ := .f32) (FloatOps.sitofp (F := Ideal) .f32 (BitVec.ofNat 32 (x : ℕ)) - Ideal.ofBits .f32 1123811328#32)

/-- The reference's scale. -/
def rScale (v : EReal) : EReal :=
  if v < Ideal.ofBits .f32 8388608#32 then 1
  else Finset.fold min (Ideal.ofBits .f32 2139095040#32)
    (fun x : Fin 256 => Scalar.select (IntOp.ori (BitVec.ofBool (decide (v < cand x))) (IntOp.cmpi CmpIPredicate.eq (BitVec.ofNat 32 (x : ℕ)) 246#32))
      (cand x) (Ideal.ofBits .f32 2139095040#32)) Finset.univ

theorem toInt_ofNat (x : Fin 256) : (BitVec.ofNat 32 (x : ℕ)).toInt = x.val := by
  have := x.isLt
  rw [BitVec.toInt_eq_toNat_cond, BitVec.toNat_ofNat, Nat.mod_eq_of_lt (by omega), if_pos (by omega)]

theorem c126 : Ideal.ofBits .f32 1123811328#32 = ((126 : ℝ) : EReal) := by
  simp [Ideal.ofBits, Ideal.ieee, -EReal.coe_mul]
  norm_num

theorem ctop : Ideal.ofBits .f32 2139095040#32 = ⊤ := by
  simp [Ideal.ofBits, Ideal.ieee]

theorem ctiny : Ideal.ofBits .f32 8388608#32 = p2 (-126) := by
  have h : (8388608#32) = pat 1 := by decide
  rw [h, ofBits_pat (by omega) (by omega)]
  norm_num

theorem cand_eq (x : Fin 256) : cand x = p2 ((x.val : ℤ) - 126) := by
  have h : (FloatOps.sitofp (F := Ideal) .f32 (BitVec.ofNat 32 (x : ℕ)) - Ideal.ofBits .f32 1123811328#32 : EReal)
      = ((((x.val : ℤ) - 126 : ℤ) : ℝ) : EReal) := by
    rw [c126]
    show ((((BitVec.ofNat 32 (x : ℕ)).toInt : ℝ) : EReal) - _) = _
    rw [toInt_ofNat, ← EReal.coe_sub]
    push_cast
    rfl
  unfold cand
  rw [h]
  show Ideal.exp2 _ = _
  rw [Ideal.exp2_coe]
  unfold p2
  congr 1
  exact Real.rpow_intCast 2 _

/-- The reference's minimum is `2^(K-126)` for the kernel's field `K`. -/
theorem fold_min (v : EReal) {K : ℕ} (h0 : 1 ≤ K) (hK : K ≤ 246) (hl : p2 ((K : ℤ) - 127) ≤ v) (hu : K < 246 → v < p2 ((K : ℤ) - 126)) :
    Finset.fold min (Ideal.ofBits .f32 2139095040#32)
      (fun x : Fin 256 => Scalar.select (IntOp.ori (BitVec.ofBool (decide (v < cand x))) (IntOp.cmpi CmpIPredicate.eq (BitVec.ofNat 32 (x : ℕ)) 246#32))
        (cand x) (Ideal.ofBits .f32 2139095040#32)) Finset.univ = p2 ((K : ℤ) - 126) := by
  have key : ∀ x : Fin 256, Scalar.select (IntOp.ori (BitVec.ofBool (decide (v < cand x))) (IntOp.cmpi CmpIPredicate.eq (BitVec.ofNat 32 (x : ℕ)) 246#32))
        (cand x) (Ideal.ofBits .f32 2139095040#32) = if v < p2 ((x.val : ℤ) - 126) ∨ x.val = 246 then p2 ((x.val : ℤ) - 126) else ⊤ := by
    intro x
    rw [ctop, cand_eq]
    have hx := x.isLt
    have hc : IntOp.cmpi CmpIPredicate.eq (BitVec.ofNat 32 (x : ℕ)) 246#32 = BitVec.ofBool (decide (x.val = 246)) := by
      unfold IntOp.cmpi
      congr 1
      rw [Bool.eq_iff_iff]
      simp only [beq_iff_eq, decide_eq_true_eq, ← BitVec.toNat_inj, BitVec.toNat_ofNat]
      omega
    rw [hc]
    generalize p2 ((x.val : ℤ) - 126) = p
    by_cases h1 : v < p <;> by_cases h2 : x.val = 246 <;>
      simp [h1, h2, Scalar.select, IntOp.ori]
  apply le_antisymm
  · rw [Finset.fold_min_le]
    right
    refine ⟨⟨K, by omega⟩, Finset.mem_univ _, ?_⟩
    rw [key]
    have : v < p2 ((K : ℤ) - 126) ∨ K = 246 := by
      rcases Nat.lt_or_ge K 246 with h | h
      · exact Or.inl (hu h)
      · exact Or.inr (by omega)
    rw [if_pos this]
  · rw [Finset.le_fold_min]
    refine ⟨by rw [ctop]; exact le_top, fun x _ => ?_⟩
    rw [key]
    by_cases h : v < p2 ((x.val : ℤ) - 126) ∨ x.val = 246
    · rw [if_pos h, p2_le]
      rcases h with h | h
      · have := p2_lt.1 (lt_of_le_of_lt hl h)
        omega
      · omega
    · rw [if_neg h]
      exact le_top

/-- Kernel and reference read at their common field. -/
theorem both (v : EReal) : kScale v = rScale v ∧ kInv v = Ideal.div 1 (rScale v) := by
  obtain ⟨K, hK, hE, hl, hu⟩ := kE_spec v
  unfold kScale kInv rScale
  rw [hE, ctiny]
  by_cases h0 : K = 0
  · subst h0
    have hv : v < p2 (-126) := by simpa using hu (by omega)
    rw [if_pos hv, div_one_one, pat_zero]
    exact ⟨rfl, rfl⟩
  · have hl' : p2 ((K : ℤ) - 127) ≤ v := hl.resolve_left h0
    have hv : ¬ v < p2 (-126) := fun h => by
      have := p2_lt.1 (lt_of_le_of_lt hl' h)
      omega
    rw [if_neg hv, fold_min v (by omega) hK hl' hu, div_one_p2]
    have hc : IntOp.cmpi .eq (pat K) 0#32 = 0#1 := by
      unfold IntOp.cmpi
      have : (pat K == 0#32) = false := by
        rw [beq_eq_false_iff_ne, Ne, ← BitVec.toNat_inj, pat_toNat (by omega)]
        simp
        omega
      simp [this]
    have ha : IntOp.addi (pat K) 8388608#32 = pat (K + 1) := by
      unfold IntOp.addi
      rw [← BitVec.toNat_inj, BitVec.toNat_add, pat_toNat (by omega), pat_toNat (by omega)]
      simp
      omega
    have hs : IntOp.subi 2122317824#32 (pat K) = pat (253 - K) := by
      unfold IntOp.subi
      rw [← BitVec.toNat_inj, BitVec.toNat_sub, pat_toNat (by omega), pat_toNat (by omega)]
      simp
      omega
    rw [hc, ha, hs, ofBits_pat (by omega) (by omega), ofBits_pat (by omega) (by omega)]
    refine ⟨?_, ?_⟩
    · show p2 _ = _
      congr 1
      push_cast
      ring
    · show p2 _ = _
      congr 1
      rw [Nat.cast_sub (by omega)]
      push_cast
      ring

theorem kScale_eq (v : EReal) : kScale v = rScale v := (both v).1
theorem kInv_eq (v : EReal) : kInv v = Ideal.div 1 (rScale v) := (both v).2

end Cert.QuantScale
-- ==== Proof.Tile.lean ====
module

public import proofs.«01_k».proof.Proof.Gen.KernelIdeal.Skeleton
public import proofs.«01_k».proof.Proof.Scale
public import Idealize.ShloMosaic.Lib.Pointwise
public import Idealize.ShloMosaic.Lib.Pipeline.ValueKit

/-! One 128 by 128 tile of the epilogue: what the kernel stores for it, at an index, in terms of the two tiles
of products it reads (`g` of the gate, `p` of the up projection). -/

@[expose] public section

set_option maxRecDepth 16384

noncomputable section

namespace Cert.Quant

open Idealize.ShloMosaic Cert.QuantScale

/-- The gated activation of one place: `silu g * p`. -/
def act (g p : EReal) : EReal := g * Ideal.logistic g * p

/-- The greatest magnitude of 128 values, times the float32 nearest to 1/448. -/
def amax (f : Fin 128 → EReal) : EReal :=
  Finset.fold max (Ideal.ofBits FTy.f32 4286578688#32) (fun x => FloatOps.absf (F := Ideal) (φ := .f32) (f x)) Finset.univ * Ideal.ofBits FTy.f32 991054117#32

/-- The code of `x` under the scale `s`: `x` times the scale's inverse, clipped to ±448. -/
def code (x s : EReal) : EReal :=
  min (Ideal.ofBits FTy.f32 1138753536#32) (max (Ideal.ofBits FTy.f32 3286237184#32) (x * Ideal.div 1 s))

/-- The scale of row `t` in the block `s` of 128 columns. -/
def rowScale (H : ℕ → ℕ → EReal) (t s : ℕ) : EReal := rScale (amax fun x => H t (128 * s + x.val))

/-- The scale of column `f` in the block `q` of 128 rows. -/
def colScale (H : ℕ → ℕ → EReal) (q f : ℕ) : EReal := rScale (amax fun x => H (128 * q + x.val) f)

/-- Row-quantised codes. -/
def rowCode (H : ℕ → ℕ → EReal) (t f : ℕ) : EReal := code (H t f) (rowScale H t (f / 128))

/-- Column-quantised codes. -/
def colCode (H : ℕ → ℕ → EReal) (t f : ℕ) : EReal := code (H t f) (colScale H (t / 128) f)

/-- The row-quantised value, scaled back. -/
def rowBack (H : ℕ → ℕ → EReal) (t f : ℕ) : EReal := rowCode H t f * rowScale H t (f / 128)

end Cert.Quant

namespace Cert.KernelIdeal.Tile

open Cert.KernelIdeal Cert.KernelIdeal.Gen Idealize.ShloMosaic Idealize.ShloMosaic.TcCoe Idealize.SL.Sem
open Cert.QuantScale Cert.Quant

theorem enc_at (h : FVec Ideal S128x128 .f32) (inv : FVec Ideal S128x1 .f32) (i j : Fin 128) : k0_pay548 h inv (ix3 0 i j)
    = min (Ideal.ofBits FTy.f32 1138753536#32) (max (Ideal.ofBits FTy.f32 3286237184#32) (h (ix2 i j) * inv (ix2 i 0))) := by
  pointwise [k0_pay548, k0_pay547]

theorem bf_at (h : FVec Ideal S128x128 .f32) (rs inv : FVec Ideal S128x1 .f32) (i j : Fin 128) : k0_pay549 h rs inv (ix2 i j)
    = min (Ideal.ofBits FTy.f32 1138753536#32) (max (Ideal.ofBits FTy.f32 3286237184#32) (h (ix2 i j) * inv (ix2 i 0))) * rs (ix2 i 0) := by
  pointwise [k0_pay549, k0_pay547]

theorem tenc_at (h : FVec Ideal S128x128 .f32) (inv : FVec Ideal S128x128 .f32) (i j : Fin 128) : k0_pay551 h inv (ix3 0 i j)
    = min (Ideal.ofBits FTy.f32 1138753536#32) (max (Ideal.ofBits FTy.f32 3286237184#32) (h (ix2 j i) * inv (ix2 j i))) := by
  pointwise [k0_pay551]

theorem h_at (g p : Vec Ideal S128x128 .f32) (i j : Fin 128) : k0_pay537 g p (ix2 i j) = act (g (ix2 i j)) (p (ix2 i j)) := by
  pointwise [k0_pay537]
  rfl

theorem rs_at (g p : Vec Ideal S128x128 .f32) (i : Fin 128) : k0_pay541 g p (ix2 i 0) = rScale (amax fun x => act (g (ix2 i x)) (p (ix2 i x))) := by
  rw [← kScale_eq]
  pointwise [k0_pay541, k0_pay540, k0_pay539, k0_pay538, k0_pay537]
  rfl

theorem ri_at (g p : Vec Ideal S128x128 .f32) (i : Fin 128) : k0_pay542 g p (ix2 i 0) = Ideal.div 1 (rScale (amax fun x => act (g (ix2 i x)) (p (ix2 i x)))) := by
  rw [← kInv_eq]
  pointwise [k0_pay542, k0_pay540, k0_pay539, k0_pay538, k0_pay537]
  rfl

theorem rs'_at (g p : Vec Ideal S128x128 .f32) (i : Fin 128) : k0_pay558 (F := Ideal) (k0_pay555 g p) k0_pay556 (ix2 i 0) = rScale (amax fun x => act (g (ix2 i x)) (p (ix2 i x))) := by
  rw [← kScale_eq]
  pointwise [k0_pay558, k0_pay557, k0_pay555, k0_pay554, k0_pay553, k0_pay556]
  rfl

theorem cv_at (g p : Vec Ideal S128x128 .f32) (j : Fin 128) : k0_pay543 g p (ix2 0 j) = amax fun x => act (g (ix2 x j)) (p (ix2 x j)) := by
  pointwise [k0_pay543, k0_pay538, k0_pay537]
  rfl

theorem ci_at (v : FVec Ideal S1x128 .f32) (i j : Fin 128) : k0_pay550 v (iota Kind.tc S256x1 32 [0] iota_S256x1_d0_w32) (ix2 i j) = Ideal.div 1 (rScale (v (ix2 0 j))) := by
  rw [← kInv_eq]
  pointwise [k0_pay550, k0_pay545, k0_pay544]
  rfl

theorem cs_at (v : FVec Ideal S1x128 .f32) (j : Fin 128) : k0_pay552 (k0_pay546 v (iota Kind.tc S256x1 32 [0] iota_S256x1_d0_w32)) (ix3 0 0 j) = rScale (v (ix2 0 j)) := by
  rw [← kScale_eq]
  pointwise [k0_pay552, k0_pay546, k0_pay545, k0_pay544]
  rfl

theorem r0_at (a b : FVec Ideal S128x1 .f32) (i : Fin 128) : k0_pay571 (k0_pay570 (iota Kind.tc S128x128 32 [1] iota_S128x128_d1_w32) a b) (ix3 0 0 i) = a (ix2 i 0) := by
  pointwise [k0_pay571, k0_pay570, k0_pay569]

theorem r1_at (a b : FVec Ideal S128x1 .f32) (i : Fin 128) : k0_pay572 (k0_pay569 (iota Kind.tc S128x128 32 [1] iota_S128x128_d1_w32) a b) (ix3 0 0 i) = b (ix2 i 0) := by
  pointwise [k0_pay572, k0_pay569]
  exact if_neg (by decide)

theorem ex3 (x : S1x128x128.Idx) : ∃ i j : Fin 128, x = ix3 (0 : Fin 1) i j := by
  refine ⟨x 1, x 2, ?_⟩
  funext a
  have h0 : (x 0).val < 1 := (x 0).isLt
  fin_cases a
  · exact Fin.ext (by show (x 0).val = 0; omega)
  · rfl
  · rfl

theorem ex2 (x : S128x128.Idx) : ∃ i j : Fin 128, x = ix2 i j := by
  refine ⟨x 0, x 1, ?_⟩
  funext a
  fin_cases a <;> rfl

theorem ex1 (x : S1x1x128.Idx) : ∃ j : Fin 128, x = ix3 (0 : Fin 1) (0 : Fin 1) j := by
  refine ⟨x 2, ?_⟩
  funext a
  have h0 : (x 0).val < 1 := (x 0).isLt
  have h1 : (x 1).val < 1 := (x 1).isLt
  fin_cases a
  · exact Fin.ext (by show (x 0).val = 0; omega)
  · exact Fin.ext (by show (x 1).val = 0; omega)
  · rfl

/-- The entry of a point's products at row `a` and column `b`. -/
def vat (v : Vec Ideal S1536x512 .f32) (a b : ℕ) : EReal :=
  v (ix2 (⟨a % 1536, Nat.mod_lt _ (by decide)⟩ : Fin 1536) (⟨b % 512, Nat.mod_lt _ (by decide)⟩ : Fin 512))

/-- The activations of a point's block: columns 0..255 of the products are the gate's, 256..511 the other's. -/
def Hgp (v : Vec Ideal S1536x512 .f32) (t f : ℕ) : EReal := act (vat v t f) (vat v t (256 + f))

/-- A tile loaded from the products, at an index. -/
theorem ld_at (v : Vec Ideal S1536x512 .f32) (t0 f0 : ℕ) (inb : ∀ a : Fin 2, (![t0, f0] : Fin 2 → ℕ) a + (![128, 128] : Fin 2 → ℕ) a ≤ S1536x512.size a) (i j : Fin 128) :
    View.ld v (Rect.unit (s := S1536x512) ![t0, f0] ![128, 128] inb) (ix2 i j) = vat v (t0 + i.val) (f0 + j.val) := by
  have h0 : t0 + 128 ≤ 1536 := inb 0
  have h1 : f0 + 128 ≤ 512 := inb 1
  unfold vat
  show v _ = v _
  congr 1
  funext a
  apply Fin.ext
  have hi := i.isLt
  have hj := j.isLt
  fin_cases a
  · show t0 + 1 * i.val = (t0 + i.val) % 1536
    rw [Nat.mod_eq_of_lt (by omega)]
    omega
  · show f0 + 1 * j.val = (f0 + j.val) % 512
    rw [Nat.mod_eq_of_lt (by omega)]
    omega

section
variable (v : Vec Ideal S1536x512 .f32) (t0 f0 f1 : ℕ)
  (ib : ∀ a : Fin 2, (![t0, f0] : Fin 2 → ℕ) a + (![128, 128] : Fin 2 → ℕ) a ≤ S1536x512.size a)
  (ib' : ∀ a : Fin 2, (![t0, f1] : Fin 2 → ℕ) a + (![128, 128] : Fin 2 → ℕ) a ≤ S1536x512.size a)

/-- The tile at row `t0`, column `f0` of a point's products. -/
abbrev tl (t0 f0 : ℕ) (ib : ∀ a : Fin 2, (![t0, f0] : Fin 2 → ℕ) a + (![128, 128] : Fin 2 → ℕ) a ≤ S1536x512.size a) : Vec Ideal S128x128 .f32 :=
  View.ld v (Rect.unit (s := S1536x512) ![t0, f0] ![128, 128] ib)

theorem act_tl (h : f1 = 256 + f0) (i j : Fin 128) : act (tl v t0 f0 ib (ix2 i j)) (tl v t0 f1 ib' (ix2 i j)) = Hgp v (t0 + i.val) (f0 + j.val) := by
  unfold Hgp
  unfold tl
  rw [ld_at, ld_at, h, Nat.add_assoc]

theorem row_tl (h : f1 = 256 + f0) (hf : f0 % 128 = 0) (i : Fin 128) (q : ℕ) (hq : q = f0 / 128) :
    rScale (amax fun x => act (tl v t0 f0 ib (ix2 i x)) (tl v t0 f1 ib' (ix2 i x))) = rowScale (Hgp v) (t0 + i.val) q := by
  unfold rowScale
  congr 2
  funext x
  rw [act_tl v t0 f0 f1 ib ib' h, show 128 * q = f0 by omega]

theorem col_tl (h : f1 = 256 + f0) (ht : t0 % 128 = 0) (j : Fin 128) (q : ℕ) (hq : q = t0 / 128) :
    rScale (amax fun x => act (tl v t0 f0 ib (ix2 x j)) (tl v t0 f1 ib' (ix2 x j))) = colScale (Hgp v) q (f0 + j.val) := by
  unfold colScale
  congr 2
  funext x
  rw [act_tl v t0 f0 f1 ib ib' h, show 128 * q = t0 by omega]

theorem piece5 (h : f1 = 256 + f0) (hf : f0 % 128 = 0) (x : S1x128x128.Idx) (t f : ℕ) (ht : t = t0 + (x 1).val) (hf' : f = f0 + (x 2).val) :
    k0_pay548 (k0_pay537 (tl v t0 f0 ib) (tl v t0 f1 ib')) (k0_pay542 (tl v t0 f0 ib) (tl v t0 f1 ib')) x = rowCode (Hgp v) t f := by
  obtain ⟨i, j, rfl⟩ := ex3 x
  have ht' : t = t0 + i.val := ht
  have hf'' : f = f0 + j.val := hf'
  have hi := i.isLt
  have hj := j.isLt
  rw [enc_at, h_at, ri_at, act_tl v t0 f0 f1 ib ib' h, row_tl v t0 f0 f1 ib ib' h hf _ (f / 128) (by omega)]
  rw [ht', hf'']
  rfl

theorem piece7 (h : f1 = 256 + f0) (hf : f0 % 128 = 0) (x : S128x128.Idx) (t f : ℕ) (ht : t = t0 + (x 0).val) (hf' : f = f0 + (x 1).val) :
    k0_pay549 (k0_pay537 (tl v t0 f0 ib) (tl v t0 f1 ib')) (k0_pay541 (tl v t0 f0 ib) (tl v t0 f1 ib')) (k0_pay542 (tl v t0 f0 ib) (tl v t0 f1 ib')) x = rowBack (Hgp v) t f := by
  obtain ⟨i, j, rfl⟩ := ex2 x
  have ht' : t = t0 + i.val := ht
  have hf'' : f = f0 + j.val := hf'
  have hi := i.isLt
  have hj := j.isLt
  rw [bf_at, h_at, ri_at, rs_at, act_tl v t0 f0 f1 ib ib' h, row_tl v t0 f0 f1 ib ib' h hf _ (f / 128) (by omega)]
  rw [ht', hf'']
  rfl

theorem piece6 (h : f1 = 256 + f0) (ht0 : t0 % 128 = 0) (x : S1x128x128.Idx) (t f : ℕ) (ht : t = t0 + (x 2).val) (hf' : f = f0 + (x 1).val) :
    k0_pay551 (k0_pay537 (tl v t0 f0 ib) (tl v t0 f1 ib')) (k0_pay550 (k0_pay543 (tl v t0 f0 ib) (tl v t0 f1 ib')) (iota Kind.tc S256x1 32 [0] iota_S256x1_d0_w32)) x = colCode (Hgp v) t f := by
  obtain ⟨i, j, rfl⟩ := ex3 x
  have ht' : t = t0 + j.val := ht
  have hf'' : f = f0 + i.val := hf'
  have hi := i.isLt
  have hj := j.isLt
  rw [tenc_at, h_at, ci_at, cv_at, act_tl v t0 f0 f1 ib ib' h, col_tl v t0 f0 f1 ib ib' h ht0 _ (t / 128) (by omega)]
  rw [ht', hf'']
  rfl

theorem piece9 (h : f1 = 256 + f0) (ht0 : t0 % 128 = 0) (x : S1x1x128.Idx) (q f : ℕ) (hq : q = t0 / 128) (hf' : f = f0 + (x 2).val) :
    k0_pay552 (k0_pay546 (k0_pay543 (tl v t0 f0 ib) (tl v t0 f1 ib')) (iota Kind.tc S256x1 32 [0] iota_S256x1_d0_w32)) x = colScale (Hgp v) q f := by
  obtain ⟨j, rfl⟩ := ex1 x
  rw [cs_at, cv_at, col_tl v t0 f0 f1 ib ib' h ht0 _ q hq]
  rw [show f = f0 + j.val from hf']
end

section
variable (v : Vec Ideal S1536x512 .f32) (t0 : ℕ)
  (ib : ∀ a : Fin 2, (![t0, 0] : Fin 2 → ℕ) a + (![128, 128] : Fin 2 → ℕ) a ≤ S1536x512.size a)
  (ib' : ∀ a : Fin 2, (![t0, 256] : Fin 2 → ℕ) a + (![128, 128] : Fin 2 → ℕ) a ≤ S1536x512.size a)
  (jb : ∀ a : Fin 2, (![t0, 128] : Fin 2 → ℕ) a + (![128, 128] : Fin 2 → ℕ) a ≤ S1536x512.size a)
  (jb' : ∀ a : Fin 2, (![t0, 384] : Fin 2 → ℕ) a + (![128, 128] : Fin 2 → ℕ) a ≤ S1536x512.size a)

theorem piece8_0 (x : S1x1x128.Idx) (t q : ℕ) (ht : t = t0 + (x 2).val) (hq : q = 0) :
    k0_pay571 (k0_pay570 (iota Kind.tc S128x128 32 [1] iota_S128x128_d1_w32) (k0_pay541 (tl v t0 0 ib) (tl v t0 256 ib'))
      (k0_pay558 (k0_pay555 (tl v t0 128 jb) (tl v t0 384 jb')) k0_pay556)) x = rowScale (Hgp v) t q := by
  obtain ⟨j, rfl⟩ := ex1 x
  rw [r0_at, rs_at, row_tl v t0 0 256 ib ib' rfl rfl _ q hq]
  rw [show t = t0 + j.val from ht]

theorem piece8_1 (x : S1x1x128.Idx) (t q : ℕ) (ht : t = t0 + (x 2).val) (hq : q = 1) :
    k0_pay572 (k0_pay569 (iota Kind.tc S128x128 32 [1] iota_S128x128_d1_w32) (k0_pay541 (tl v t0 0 ib) (tl v t0 256 ib'))
      (k0_pay558 (k0_pay555 (tl v t0 128 jb) (tl v t0 384 jb')) k0_pay556)) x = rowScale (Hgp v) t q := by
  obtain ⟨j, rfl⟩ := ex1 x
  rw [r1_at, rs'_at, row_tl v t0 128 384 jb jb' rfl rfl _ q (by omega)]
  rw [show t = t0 + j.val from ht]
end

end Cert.KernelIdeal.Tile
-- ==== Proof.Pieces.lean ====
module

public import proofs.«01_k».proof.Proof.Gen.KernelIdeal.Value
public import proofs.«01_k».proof.Proof.Tile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Pieces

open Cert.Quant Cert.KernelIdeal.Tile Cert.KernelIdeal Cert.KernelIdeal.Gen Idealize.ShloMosaic Idealize.ShloMosaic.TcCoe Idealize.SL.Sem
open Idealize.ShloMosaic.Tactic

/-- The block of row codes that a point of case B stores, in terms of the products it found. -/
theorem B_5 (c : Dev nD) (i : grid0.Coords) (arg1 : Memref sig .tc .vmem S1536x2560 .bf16) (harg1 : arg1.IsWhole) (arg2 : Memref sig .tc .vmem S2560x256 .fp8e4m3) (harg2 : arg2.IsWhole) (arg3 : Memref sig .tc .vmem S2560x256 .fp8e4m3) (harg3 : arg3.IsWhole) (arg4 : Memref sig .tc .smem S20x54 .f32) (harg4 : arg4.IsWhole) (arg5 : Memref sig .tc .smem S20x54 .f32) (harg5 : arg5.IsWhole) (arg6 : Memref sig .tc .vmem S2x768x256 .fp8e4m3) (harg6 : arg6.IsWhole) (arg7 : Memref sig .tc .vmem S2x256x768 .fp8e4m3) (harg7 : arg7.IsWhole) (arg8 : Memref sig .tc .vmem S1536x256 .bf16) (harg8 : arg8.IsWhole) (arg9 : Memref sig .tc .vmem S2x2x768 .f32) (harg9 : arg9.IsWhole) (arg10 : Memref sig .tc .vmem S6x2x256 .f32) (harg10 : arg10.IsWhole) (arg11 : Memref sig .tc .vmem S2560x512 .bf16) (harg11 : arg11.IsWhole) (arg12 : Memref sig .tc .vmem S1536x512 .f32) (harg12 : arg12.IsWhole) (hc0 : ¬cond0_0 i) (hc1 : cond0_1 i) (hc2 : ¬cond0_2 i)
    (x0 : Vec Ideal S1536x2560 .bf16) (x1 : Vec Ideal S2560x256 .fp8e4m3) (x2 : Vec Ideal S2560x256 .fp8e4m3) (x3 : Vec Ideal S20x54 .f32) (x4 : Vec Ideal S20x54 .f32) (xs1 : Vec Ideal S1536x512 .f32) (y : S2x768x256.Idx) : out0_B_5 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs1 y = rowCode (Hgp xs1) (768 * (y 0).val + (y 1).val) (y 2).val := by
  frame_open
  simp (disch := decide) only [↓ View.readCov_skip, ↓ View.readCov_cons_toLoadRect, ↓ View.readCov_fill]
  frame_out
  canon_tiles x h
  all_goals (exact piece5 xs1 _ _ _ _ _ (by rfl) (by rfl) x _ _ (by omega) (by omega))

/-- The block of column codes that a point of case B stores, in terms of the products it found. -/
theorem B_6 (c : Dev nD) (i : grid0.Coords) (arg1 : Memref sig .tc .vmem S1536x2560 .bf16) (harg1 : arg1.IsWhole) (arg2 : Memref sig .tc .vmem S2560x256 .fp8e4m3) (harg2 : arg2.IsWhole) (arg3 : Memref sig .tc .vmem S2560x256 .fp8e4m3) (harg3 : arg3.IsWhole) (arg4 : Memref sig .tc .smem S20x54 .f32) (harg4 : arg4.IsWhole) (arg5 : Memref sig .tc .smem S20x54 .f32) (harg5 : arg5.IsWhole) (arg6 : Memref sig .tc .vmem S2x768x256 .fp8e4m3) (harg6 : arg6.IsWhole) (arg7 : Memref sig .tc .vmem S2x256x768 .fp8e4m3) (harg7 : arg7.IsWhole) (arg8 : Memref sig .tc .vmem S1536x256 .bf16) (harg8 : arg8.IsWhole) (arg9 : Memref sig .tc .vmem S2x2x768 .f32) (harg9 : arg9.IsWhole) (arg10 : Memref sig .tc .vmem S6x2x256 .f32) (harg10 : arg10.IsWhole) (arg11 : Memref sig .tc .vmem S2560x512 .bf16) (harg11 : arg11.IsWhole) (arg12 : Memref sig .tc .vmem S1536x512 .f32) (harg12 : arg12.IsWhole) (hc0 : ¬cond0_0 i) (hc1 : cond0_1 i) (hc2 : ¬cond0_2 i)
    (x0 : Vec Ideal S1536x2560 .bf16) (x1 : Vec Ideal S2560x256 .fp8e4m3) (x2 : Vec Ideal S2560x256 .fp8e4m3) (x3 : Vec Ideal S20x54 .f32) (x4 : Vec Ideal S20x54 .f32) (xs1 : Vec Ideal S1536x512 .f32) (y : S2x256x768.Idx) : out0_B_6 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs1 y = colCode (Hgp xs1) (768 * (y 0).val + (y 2).val) (y 1).val := by
  frame_open
  simp (disch := decide) only [↓ View.readCov_skip, ↓ View.readCov_cons_toLoadRect, ↓ View.readCov_fill]
  frame_out
  canon_tiles x h
  all_goals (exact piece6 xs1 _ _ _ _ _ (by rfl) (by rfl) x _ _ (by omega) (by omega))

/-- The block of values read back that a point of case B stores, in terms of the products it found. -/
theorem B_7 (c : Dev nD) (i : grid0.Coords) (arg1 : Memref sig .tc .vmem S1536x2560 .bf16) (harg1 : arg1.IsWhole) (arg2 : Memref sig .tc .vmem S2560x256 .fp8e4m3) (harg2 : arg2.IsWhole) (arg3 : Memref sig .tc .vmem S2560x256 .fp8e4m3) (harg3 : arg3.IsWhole) (arg4 : Memref sig .tc .smem S20x54 .f32) (harg4 : arg4.IsWhole) (arg5 : Memref sig .tc .smem S20x54 .f32) (harg5 : arg5.IsWhole) (arg6 : Memref sig .tc .vmem S2x768x256 .fp8e4m3) (harg6 : arg6.IsWhole) (arg7 : Memref sig .tc .vmem S2x256x768 .fp8e4m3) (harg7 : arg7.IsWhole) (arg8 : Memref sig .tc .vmem S1536x256 .bf16) (harg8 : arg8.IsWhole) (arg9 : Memref sig .tc .vmem S2x2x768 .f32) (harg9 : arg9.IsWhole) (arg10 : Memref sig .tc .vmem S6x2x256 .f32) (harg10 : arg10.IsWhole) (arg11 : Memref sig .tc .vmem S2560x512 .bf16) (harg11 : arg11.IsWhole) (arg12 : Memref sig .tc .vmem S1536x512 .f32) (harg12 : arg12.IsWhole) (hc0 : ¬cond0_0 i) (hc1 : cond0_1 i) (hc2 : ¬cond0_2 i)
    (x0 : Vec Ideal S1536x2560 .bf16) (x1 : Vec Ideal S2560x256 .fp8e4m3) (x2 : Vec Ideal S2560x256 .fp8e4m3) (x3 : Vec Ideal S20x54 .f32) (x4 : Vec Ideal S20x54 .f32) (xs1 : Vec Ideal S1536x512 .f32) (y : S1536x256.Idx) : out0_B_7 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs1 y = rowBack (Hgp xs1) (y 0).val (y 1).val := by
  frame_open
  simp (disch := decide) only [↓ View.readCov_skip, ↓ View.readCov_cons_toLoadRect, ↓ View.readCov_fill]
  frame_out
  canon_tiles x h
  all_goals (exact piece7 xs1 _ _ _ _ _ (by rfl) (by rfl) x _ _ (by omega) (by omega))

set_option maxRecDepth 100000 in
/-- The block of row scales that a point of case B stores, in terms of the products it found. -/
theorem B_8 (c : Dev nD) (i : grid0.Coords) (arg1 : Memref sig .tc .vmem S1536x2560 .bf16) (harg1 : arg1.IsWhole) (arg2 : Memref sig .tc .vmem S2560x256 .fp8e4m3) (harg2 : arg2.IsWhole) (arg3 : Memref sig .tc .vmem S2560x256 .fp8e4m3) (harg3 : arg3.IsWhole) (arg4 : Memref sig .tc .smem S20x54 .f32) (harg4 : arg4.IsWhole) (arg5 : Memref sig .tc .smem S20x54 .f32) (harg5 : arg5.IsWhole) (arg6 : Memref sig .tc .vmem S2x768x256 .fp8e4m3) (harg6 : arg6.IsWhole) (arg7 : Memref sig .tc .vmem S2x256x768 .fp8e4m3) (harg7 : arg7.IsWhole) (arg8 : Memref sig .tc .vmem S1536x256 .bf16) (harg8 : arg8.IsWhole) (arg9 : Memref sig .tc .vmem S2x2x768 .f32) (harg9 : arg9.IsWhole) (arg10 : Memref sig .tc .vmem S6x2x256 .f32) (harg10 : arg10.IsWhole) (arg11 : Memref sig .tc .vmem S2560x512 .bf16) (harg11 : arg11.IsWhole) (arg12 : Memref sig .tc .vmem S1536x512 .f32) (harg12 : arg12.IsWhole) (hc0 : ¬cond0_0 i) (hc1 : cond0_1 i) (hc2 : ¬cond0_2 i)
    (x0 : Vec Ideal S1536x2560 .bf16) (x1 : Vec Ideal S2560x256 .fp8e4m3) (x2 : Vec Ideal S2560x256 .fp8e4m3) (x3 : Vec Ideal S20x54 .f32) (x4 : Vec Ideal S20x54 .f32) (xs1 : Vec Ideal S1536x512 .f32) (y : S2x2x768.Idx) : out0_B_8 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs1 y = rowScale (Hgp xs1) (768 * (y 1).val + (y 2).val) (y 0).val := by
  frame_open
  simp (disch := decide) only [↓ View.readCov_skip, ↓ View.readCov_cons_toLoadRect, ↓ View.readCov_fill]
  frame_out
  canon_tiles x h
  all_goals (first | (have hq : (y 0).val = 0 := by omega); exact piece8_0 xs1 _ _ _ _ _ x _ _ (by omega) hq | (have hq : (y 0).val = 1 := by omega); exact piece8_1 xs1 _ _ _ _ _ x _ _ (by omega) hq)

/-- The block of column scales that a point of case B stores, in terms of the products it found. -/
theorem B_9 (c : Dev nD) (i : grid0.Coords) (arg1 : Memref sig .tc .vmem S1536x2560 .bf16) (harg1 : arg1.IsWhole) (arg2 : Memref sig .tc .vmem S2560x256 .fp8e4m3) (harg2 : arg2.IsWhole) (arg3 : Memref sig .tc .vmem S2560x256 .fp8e4m3) (harg3 : arg3.IsWhole) (arg4 : Memref sig .tc .smem S20x54 .f32) (harg4 : arg4.IsWhole) (arg5 : Memref sig .tc .smem S20x54 .f32) (harg5 : arg5.IsWhole) (arg6 : Memref sig .tc .vmem S2x768x256 .fp8e4m3) (harg6 : arg6.IsWhole) (arg7 : Memref sig .tc .vmem S2x256x768 .fp8e4m3) (harg7 : arg7.IsWhole) (arg8 : Memref sig .tc .vmem S1536x256 .bf16) (harg8 : arg8.IsWhole) (arg9 : Memref sig .tc .vmem S2x2x768 .f32) (harg9 : arg9.IsWhole) (arg10 : Memref sig .tc .vmem S6x2x256 .f32) (harg10 : arg10.IsWhole) (arg11 : Memref sig .tc .vmem S2560x512 .bf16) (harg11 : arg11.IsWhole) (arg12 : Memref sig .tc .vmem S1536x512 .f32) (harg12 : arg12.IsWhole) (hc0 : ¬cond0_0 i) (hc1 : cond0_1 i) (hc2 : ¬cond0_2 i)
    (x0 : Vec Ideal S1536x2560 .bf16) (x1 : Vec Ideal S2560x256 .fp8e4m3) (x2 : Vec Ideal S2560x256 .fp8e4m3) (x3 : Vec Ideal S20x54 .f32) (x4 : Vec Ideal S20x54 .f32) (xs1 : Vec Ideal S1536x512 .f32) (y : S6x2x256.Idx) : out0_B_9 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs1 y = colScale (Hgp xs1) (6 * (y 1).val + (y 0).val) (y 2).val := by
  frame_open
  simp (disch := decide) only [↓ View.readCov_skip, ↓ View.readCov_cons_toLoadRect, ↓ View.readCov_fill]
  frame_out
  canon_tiles x h
  all_goals (exact piece9 xs1 _ _ _ _ _ (by rfl) (by rfl) x _ _ (by omega) (by omega))

/-- The block of row codes that a point of case C stores, in terms of the products it found. -/
theorem C_5 (c : Dev nD) (i : grid0.Coords) (arg1 : Memref sig .tc .vmem S1536x2560 .bf16) (harg1 : arg1.IsWhole) (arg2 : Memref sig .tc .vmem S2560x256 .fp8e4m3) (harg2 : arg2.IsWhole) (arg3 : Memref sig .tc .vmem S2560x256 .fp8e4m3) (harg3 : arg3.IsWhole) (arg4 : Memref sig .tc .smem S20x54 .f32) (harg4 : arg4.IsWhole) (arg5 : Memref sig .tc .smem S20x54 .f32) (harg5 : arg5.IsWhole) (arg6 : Memref sig .tc .vmem S2x768x256 .fp8e4m3) (harg6 : arg6.IsWhole) (arg7 : Memref sig .tc .vmem S2x256x768 .fp8e4m3) (harg7 : arg7.IsWhole) (arg8 : Memref sig .tc .vmem S1536x256 .bf16) (harg8 : arg8.IsWhole) (arg9 : Memref sig .tc .vmem S2x2x768 .f32) (harg9 : arg9.IsWhole) (arg10 : Memref sig .tc .vmem S6x2x256 .f32) (harg10 : arg10.IsWhole) (arg11 : Memref sig .tc .vmem S2560x512 .bf16) (harg11 : arg11.IsWhole) (arg12 : Memref sig .tc .vmem S1536x512 .f32) (harg12 : arg12.IsWhole) (hc0 : ¬cond0_0 i) (hc1 : ¬cond0_1 i) (hc2 : cond0_2 i)
    (x0 : Vec Ideal S1536x2560 .bf16) (x1 : Vec Ideal S2560x256 .fp8e4m3) (x2 : Vec Ideal S2560x256 .fp8e4m3) (x3 : Vec Ideal S20x54 .f32) (x4 : Vec Ideal S20x54 .f32) (xs1 : Vec Ideal S1536x512 .f32) (y : S2x768x256.Idx) : out0_C_5 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs1 y = rowCode (Hgp xs1) (768 * (y 0).val + (y 1).val) (y 2).val := by
  frame_open
  frame_out
  canon_tiles x h
  all_goals (exact piece5 xs1 _ _ _ _ _ (by rfl) (by rfl) x _ _ (by omega) (by omega))

/-- The block of column codes that a point of case C stores, in terms of the products it found. -/
theorem C_6 (c : Dev nD) (i : grid0.Coords) (arg1 : Memref sig .tc .vmem S1536x2560 .bf16) (harg1 : arg1.IsWhole) (arg2 : Memref sig .tc .vmem S2560x256 .fp8e4m3) (harg2 : arg2.IsWhole) (arg3 : Memref sig .tc .vmem S2560x256 .fp8e4m3) (harg3 : arg3.IsWhole) (arg4 : Memref sig .tc .smem S20x54 .f32) (harg4 : arg4.IsWhole) (arg5 : Memref sig .tc .smem S20x54 .f32) (harg5 : arg5.IsWhole) (arg6 : Memref sig .tc .vmem S2x768x256 .fp8e4m3) (harg6 : arg6.IsWhole) (arg7 : Memref sig .tc .vmem S2x256x768 .fp8e4m3) (harg7 : arg7.IsWhole) (arg8 : Memref sig .tc .vmem S1536x256 .bf16) (harg8 : arg8.IsWhole) (arg9 : Memref sig .tc .vmem S2x2x768 .f32) (harg9 : arg9.IsWhole) (arg10 : Memref sig .tc .vmem S6x2x256 .f32) (harg10 : arg10.IsWhole) (arg11 : Memref sig .tc .vmem S2560x512 .bf16) (harg11 : arg11.IsWhole) (arg12 : Memref sig .tc .vmem S1536x512 .f32) (harg12 : arg12.IsWhole) (hc0 : ¬cond0_0 i) (hc1 : ¬cond0_1 i) (hc2 : cond0_2 i)
    (x0 : Vec Ideal S1536x2560 .bf16) (x1 : Vec Ideal S2560x256 .fp8e4m3) (x2 : Vec Ideal S2560x256 .fp8e4m3) (x3 : Vec Ideal S20x54 .f32) (x4 : Vec Ideal S20x54 .f32) (xs1 : Vec Ideal S1536x512 .f32) (y : S2x256x768.Idx) : out0_C_6 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs1 y = colCode (Hgp xs1) (768 * (y 0).val + (y 2).val) (y 1).val := by
  frame_open
  frame_out
  canon_tiles x h
  all_goals (exact piece6 xs1 _ _ _ _ _ (by rfl) (by rfl) x _ _ (by omega) (by omega))

/-- The block of values read back that a point of case C stores, in terms of the products it found. -/
theorem C_7 (c : Dev nD) (i : grid0.Coords) (arg1 : Memref sig .tc .vmem S1536x2560 .bf16) (harg1 : arg1.IsWhole) (arg2 : Memref sig .tc .vmem S2560x256 .fp8e4m3) (harg2 : arg2.IsWhole) (arg3 : Memref sig .tc .vmem S2560x256 .fp8e4m3) (harg3 : arg3.IsWhole) (arg4 : Memref sig .tc .smem S20x54 .f32) (harg4 : arg4.IsWhole) (arg5 : Memref sig .tc .smem S20x54 .f32) (harg5 : arg5.IsWhole) (arg6 : Memref sig .tc .vmem S2x768x256 .fp8e4m3) (harg6 : arg6.IsWhole) (arg7 : Memref sig .tc .vmem S2x256x768 .fp8e4m3) (harg7 : arg7.IsWhole) (arg8 : Memref sig .tc .vmem S1536x256 .bf16) (harg8 : arg8.IsWhole) (arg9 : Memref sig .tc .vmem S2x2x768 .f32) (harg9 : arg9.IsWhole) (arg10 : Memref sig .tc .vmem S6x2x256 .f32) (harg10 : arg10.IsWhole) (arg11 : Memref sig .tc .vmem S2560x512 .bf16) (harg11 : arg11.IsWhole) (arg12 : Memref sig .tc .vmem S1536x512 .f32) (harg12 : arg12.IsWhole) (hc0 : ¬cond0_0 i) (hc1 : ¬cond0_1 i) (hc2 : cond0_2 i)
    (x0 : Vec Ideal S1536x2560 .bf16) (x1 : Vec Ideal S2560x256 .fp8e4m3) (x2 : Vec Ideal S2560x256 .fp8e4m3) (x3 : Vec Ideal S20x54 .f32) (x4 : Vec Ideal S20x54 .f32) (xs1 : Vec Ideal S1536x512 .f32) (y : S1536x256.Idx) : out0_C_7 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs1 y = rowBack (Hgp xs1) (y 0).val (y 1).val := by
  frame_open
  frame_out
  canon_tiles x h
  all_goals (exact piece7 xs1 _ _ _ _ _ (by rfl) (by rfl) x _ _ (by omega) (by omega))

set_option maxRecDepth 100000 in
/-- The block of row scales that a point of case C stores, in terms of the products it found. -/
theorem C_8 (c : Dev nD) (i : grid0.Coords) (arg1 : Memref sig .tc .vmem S1536x2560 .bf16) (harg1 : arg1.IsWhole) (arg2 : Memref sig .tc .vmem S2560x256 .fp8e4m3) (harg2 : arg2.IsWhole) (arg3 : Memref sig .tc .vmem S2560x256 .fp8e4m3) (harg3 : arg3.IsWhole) (arg4 : Memref sig .tc .smem S20x54 .f32) (harg4 : arg4.IsWhole) (arg5 : Memref sig .tc .smem S20x54 .f32) (harg5 : arg5.IsWhole) (arg6 : Memref sig .tc .vmem S2x768x256 .fp8e4m3) (harg6 : arg6.IsWhole) (arg7 : Memref sig .tc .vmem S2x256x768 .fp8e4m3) (harg7 : arg7.IsWhole) (arg8 : Memref sig .tc .vmem S1536x256 .bf16) (harg8 : arg8.IsWhole) (arg9 : Memref sig .tc .vmem S2x2x768 .f32) (harg9 : arg9.IsWhole) (arg10 : Memref sig .tc .vmem S6x2x256 .f32) (harg10 : arg10.IsWhole) (arg11 : Memref sig .tc .vmem S2560x512 .bf16) (harg11 : arg11.IsWhole) (arg12 : Memref sig .tc .vmem S1536x512 .f32) (harg12 : arg12.IsWhole) (hc0 : ¬cond0_0 i) (hc1 : ¬cond0_1 i) (hc2 : cond0_2 i)
    (x0 : Vec Ideal S1536x2560 .bf16) (x1 : Vec Ideal S2560x256 .fp8e4m3) (x2 : Vec Ideal S2560x256 .fp8e4m3) (x3 : Vec Ideal S20x54 .f32) (x4 : Vec Ideal S20x54 .f32) (xs1 : Vec Ideal S1536x512 .f32) (y : S2x2x768.Idx) : out0_C_8 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs1 y = rowScale (Hgp xs1) (768 * (y 1).val + (y 2).val) (y 0).val := by
  frame_open
  frame_out
  canon_tiles x h
  all_goals (first | (have hq : (y 0).val = 0 := by omega); exact piece8_0 xs1 _ _ _ _ _ x _ _ (by omega) hq | (have hq : (y 0).val = 1 := by omega); exact piece8_1 xs1 _ _ _ _ _ x _ _ (by omega) hq)

/-- The block of column scales that a point of case C stores, in terms of the products it found. -/
theorem C_9 (c : Dev nD) (i : grid0.Coords) (arg1 : Memref sig .tc .vmem S1536x2560 .bf16) (harg1 : arg1.IsWhole) (arg2 : Memref sig .tc .vmem S2560x256 .fp8e4m3) (harg2 : arg2.IsWhole) (arg3 : Memref sig .tc .vmem S2560x256 .fp8e4m3) (harg3 : arg3.IsWhole) (arg4 : Memref sig .tc .smem S20x54 .f32) (harg4 : arg4.IsWhole) (arg5 : Memref sig .tc .smem S20x54 .f32) (harg5 : arg5.IsWhole) (arg6 : Memref sig .tc .vmem S2x768x256 .fp8e4m3) (harg6 : arg6.IsWhole) (arg7 : Memref sig .tc .vmem S2x256x768 .fp8e4m3) (harg7 : arg7.IsWhole) (arg8 : Memref sig .tc .vmem S1536x256 .bf16) (harg8 : arg8.IsWhole) (arg9 : Memref sig .tc .vmem S2x2x768 .f32) (harg9 : arg9.IsWhole) (arg10 : Memref sig .tc .vmem S6x2x256 .f32) (harg10 : arg10.IsWhole) (arg11 : Memref sig .tc .vmem S2560x512 .bf16) (harg11 : arg11.IsWhole) (arg12 : Memref sig .tc .vmem S1536x512 .f32) (harg12 : arg12.IsWhole) (hc0 : ¬cond0_0 i) (hc1 : ¬cond0_1 i) (hc2 : cond0_2 i)
    (x0 : Vec Ideal S1536x2560 .bf16) (x1 : Vec Ideal S2560x256 .fp8e4m3) (x2 : Vec Ideal S2560x256 .fp8e4m3) (x3 : Vec Ideal S20x54 .f32) (x4 : Vec Ideal S20x54 .f32) (xs1 : Vec Ideal S1536x512 .f32) (y : S6x2x256.Idx) : out0_C_9 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs1 y = colScale (Hgp xs1) (6 * (y 1).val + (y 0).val) (y 2).val := by
  frame_open
  frame_out
  canon_tiles x h
  all_goals (exact piece9 xs1 _ _ _ _ _ (by rfl) (by rfl) x _ _ (by omega) (by omega))

end Cert.KernelIdeal.Pieces
-- ==== Proof.Gp.lean ====
module

public import proofs.«01_k».proof.Proof.Gen.KernelIdeal.Value
public import proofs.«01_k».proof.Proof.Tile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Gp

open Cert.Quant Cert.KernelIdeal.Tile Cert.KernelIdeal Cert.KernelIdeal.Gen Idealize.ShloMosaic Idealize.ShloMosaic.TcCoe Idealize.SL.Sem
open Idealize.ShloMosaic.Tactic

/-- The block of weights at row `a`, column `b`, times the scale of its tile: column tile `2 i + b / 128`. -/
def wAt (x : Vec Ideal S2560x256 .fp8e4m3) (s : Vec Ideal S20x54 .f32) (i a b : ℕ) : EReal :=
  x (ix2 (⟨a % 2560, Nat.mod_lt _ (by decide)⟩ : Fin 2560) (⟨b % 256, Nat.mod_lt _ (by decide)⟩ : Fin 256)) *
    s (ix2 (⟨a / 128 % 20, Nat.mod_lt _ (by decide)⟩ : Fin 20) (⟨(2 * i + b / 128) % 54, Nat.mod_lt _ (by decide)⟩ : Fin 54))

/-- The two dequantised blocks side by side: columns 0..255 from the first pair, 256..511 from the second. -/
def wBoth (x1 x2 : Vec Ideal S2560x256 .fp8e4m3) (x3 x4 : Vec Ideal S20x54 .f32) (i a b : ℕ) : EReal :=
  if b < 256 then wAt x1 x3 i a b else wAt x2 x4 i a (b - 256)

theorem ex2w (x : S128x128.Idx) : ∃ i j : Fin 128, x = ix2 i j := by
  refine ⟨x 0, x 1, ?_⟩
  funext a
  fin_cases a <;> rfl

theorem ex2c (x : S256x512.Idx) : ∃ (i : Fin 256) (j : Fin 512), x = ix2 i j := by
  refine ⟨x 0, x 1, ?_⟩
  funext a
  fin_cases a <;> rfl

/-- One dequantised tile at an index. -/
theorem deq_at (w : Vec Ideal S128x128 .fp8e4m3) (s : EReal) (i j : Fin 128) : k0_pay11 (F := Ideal) w s (ix2 i j) = w (ix2 i j) * s := by
  pointwise [k0_pay11]

/-- One dequantised tile, taken from a block of weights and a table of scales. -/
theorem deq (w : Vec Ideal S2560x256 .fp8e4m3) (s : Vec Ideal S20x54 .f32) (r0 c0 i : ℕ) (hr : r0 % 128 = 0) (hc : c0 % 128 = 0)
    (ib : ∀ a : Fin 2, (![r0, c0] : Fin 2 → ℕ) a + (![128, 128] : Fin 2 → ℕ) a ≤ S2560x256.size a)
    (o : Fin 2 → ℕ) [co : ClosedOff o] (ho : co.1 = ![r0 / 128, 2 * i + c0 / 128])
    (is : ∀ a : Fin 2, o a + (![1, 1] : Fin 2 → ℕ) a ≤ S20x54.size a) (hp) (x : S128x128.Idx) (a b : ℕ) (ha : a = r0 + (x 0).val) (hb : b = c0 + (x 1).val) :
    k0_pay11 (F := Ideal) (View.ld w (Rect.unit (s := S2560x256) ![r0, c0] ![128, 128] ib))
      (View.ld s (Rect.unit (s := S20x54) o ![1, 1] is) (Shape.Idx.first hp)) x = wAt w s i a b := by
  obtain ⟨p, q, rfl⟩ := ex2w x
  have ho' : o = _ := co.2.trans ho
  clear ho
  clear co
  subst ho'
  have ha' : a = r0 + p.val := ha
  have hb' : b = c0 + q.val := hb
  have h0 : r0 + 128 ≤ 2560 := ib 0
  have h1 : c0 + 128 ≤ 256 := ib 1
  have h2 : 2 * i + c0 / 128 + 1 ≤ 54 := is 1
  have hp' := p.isLt
  have hq' := q.isLt
  rw [deq_at]
  unfold wAt
  congr 1
  · show w _ = w _
    congr 1
    funext z
    apply Fin.ext
    fin_cases z
    · show r0 + 1 * p.val = a % 2560
      omega
    · show c0 + 1 * q.val = b % 256
      omega
  · show s _ = s _
    congr 1
    funext z
    apply Fin.ext
    fin_cases z
    · show r0 / 128 + 1 * 0 = a / 128 % 20
      omega
    · show 2 * i + c0 / 128 + 1 * 0 = (2 * i + b / 128) % 54
      omega

/-- The weights read back whole after the tiles were stored, at an index. -/
theorem whole_cov {κ sp} (v : View sig κ sp S2560x512 .bf16) (L : List (View.Piece (Elt Ideal) S2560x512 .bf16))
    (ib : ∀ a : Fin 2, (![0, 0] : Fin 2 → ℕ) a + (![2560, 512] : Fin 2 → ℕ) a ≤ S2560x512.size a) (k : Fin 2560) (j : Fin 512) :
    v.readCov L (Rect.unit (s := S2560x512) ![0, 0] ![2560, 512] ib).toLoadRect (ix2 k j) = View.canon L (ix2 k j) := by
  refine (congrFun (View.readCov_eq_canon' v L (Rect.unit (s := S2560x512) ![0, 0] ![2560, 512] ib).toLoadRect) (ix2 k j)).trans ?_
  show View.canon L _ = _
  congr 1
  funext z
  apply Fin.ext
  fin_cases z
  · show 0 + 1 * k.val = k.val
    omega
  · show 0 + 1 * j.val = j.val
    omega

/-- A write under ones that already hold the index is not read there. -/
theorem canon_drop {S : Shape} {e : EltTy} (L' : List (View.Piece (Elt Ideal) S e)) : ∀ (L : List (View.Piece (Elt Ideal) S e)) (y : S.Idx)
    (_ : ∃ p ∈ L, y ∈ p.1.set), View.canon (L ++ L') y = View.canon L y
  | [], _, hy => by
    obtain ⟨p, hp, _⟩ := hy
    simp at hp
  | p :: L, y, hy => by
    by_cases hm : y ∈ p.1.set
    · obtain ⟨r, w⟩ := p
      obtain ⟨x, rfl⟩ : ∃ x, r.emb x = y := r.exists_idx_of_mem hm
      rw [List.cons_append, View.canon_cons_emb, View.canon_cons_emb]
    · rw [List.cons_append, View.canon_cons_of_not_mem p _ hm, View.canon_cons_of_not_mem p _ hm]
      refine canon_drop L' L y ?_
      obtain ⟨q, hq, hyq⟩ := hy
      rcases List.mem_cons.mp hq with rfl | hq
      · exact absurd hyq hm
      · exact ⟨q, hq, hyq⟩

/-- One block of 256 rows of the products at an index. -/
theorem dot_at (a : Vec Ideal S256x2560 .bf16) (w : Vec Ideal S2560x512 .bf16) (i : Fin 256) (j : Fin 512) :
    k0_pay4 (F := Ideal) a w (ix2 i j) = ∑ k : Fin 2560, a (ix2 i k) * w (ix2 k j) := by
  pointwise [k0_pay4]

/-- A product at row `r`, column `b`, of the activations with the two dequantised blocks side by side. -/
def dotAt (x0 : Vec Ideal S1536x2560 .bf16) (x1 x2 : Vec Ideal S2560x256 .fp8e4m3) (x3 x4 : Vec Ideal S20x54 .f32) (i r b : ℕ) : EReal :=
  ∑ k : Fin 2560, x0 (ix2 (⟨r % 1536, Nat.mod_lt _ (by decide)⟩ : Fin 1536) k) * wBoth x1 x2 x3 x4 i k.val b

theorem chunk (x0 : Vec Ideal S1536x2560 .bf16) (x1 x2 : Vec Ideal S2560x256 .fp8e4m3) (x3 x4 : Vec Ideal S20x54 .f32) (i r0 : ℕ)
    (ib : ∀ a : Fin 2, (![r0, 0] : Fin 2 → ℕ) a + (![256, 2560] : Fin 2 → ℕ) a ≤ S1536x2560.size a)
    (w : Vec Ideal S2560x512 .bf16) (hw : ∀ (k : Fin 2560) (j : Fin 512), w (ix2 k j) = wBoth x1 x2 x3 x4 i k.val j.val)
    (x : S256x512.Idx) (r b : ℕ) (hr : r = r0 + (x 0).val) (hb : b = (x 1).val) :
    k0_pay4 (F := Ideal) (View.ld x0 (Rect.unit (s := S1536x2560) ![r0, 0] ![256, 2560] ib)) w x = dotAt x0 x1 x2 x3 x4 i r b := by
  obtain ⟨p, q, rfl⟩ := ex2c x
  have hr' : r = r0 + p.val := hr
  have hb' : b = q.val := hb
  have h0 : r0 + 256 ≤ 1536 := ib 0
  have hp' := p.isLt
  rw [dot_at]
  unfold dotAt
  refine Finset.sum_congr rfl fun k _ => ?_
  rw [hw, hb']
  congr 1
  show x0 _ = x0 _
  congr 1
  funext z
  apply Fin.ext
  fin_cases z
  · show r0 + 1 * p.val = r % 1536
    omega
  · show 0 + 1 * k.val = k.val
    omega

set_option maxHeartbeats 4000000 in
/-- The products that a point of case A leaves, at an index. -/
theorem A_gp (c : Dev nD) (i : grid0.Coords) (arg1 : Memref sig .tc .vmem S1536x2560 .bf16) (harg1 : arg1.IsWhole) (arg2 : Memref sig .tc .vmem S2560x256 .fp8e4m3) (harg2 : arg2.IsWhole) (arg3 : Memref sig .tc .vmem S2560x256 .fp8e4m3) (harg3 : arg3.IsWhole) (arg4 : Memref sig .tc .smem S20x54 .f32) (harg4 : arg4.IsWhole) (arg5 : Memref sig .tc .smem S20x54 .f32) (harg5 : arg5.IsWhole) (arg6 : Memref sig .tc .vmem S2x768x256 .fp8e4m3) (harg6 : arg6.IsWhole) (arg7 : Memref sig .tc .vmem S2x256x768 .fp8e4m3) (harg7 : arg7.IsWhole) (arg8 : Memref sig .tc .vmem S1536x256 .bf16) (harg8 : arg8.IsWhole) (arg9 : Memref sig .tc .vmem S2x2x768 .f32) (harg9 : arg9.IsWhole) (arg10 : Memref sig .tc .vmem S6x2x256 .f32) (harg10 : arg10.IsWhole) (arg11 : Memref sig .tc .vmem S2560x512 .bf16) (harg11 : arg11.IsWhole) (arg12 : Memref sig .tc .vmem S1536x512 .f32) (harg12 : arg12.IsWhole) (hc0 : cond0_0 i) (hc1 : cond0_1 i) (hc2 : ¬cond0_2 i)
    (x0 : Vec Ideal S1536x2560 .bf16) (x1 : Vec Ideal S2560x256 .fp8e4m3) (x2 : Vec Ideal S2560x256 .fp8e4m3) (x3 : Vec Ideal S20x54 .f32) (x4 : Vec Ideal S20x54 .f32) (y : S1536x512.Idx) : sout0_A_1 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 y = dotAt x0 x1 x2 x3 x4 (i 0).val (y 0).val (y 1).val := by
  frame_open
  frame_out
  refine (canon_drop [_] [_, _, _, _, _, _] y (View.cover_of_tiled_head _ _ _ (by rfl) y)).trans ?_
  canon_tiles x h
  all_goals
    refine chunk x0 x1 x2 x3 x4 (i 0).val _ _ _ ?_ x _ _ (by omega) (by omega)
    intro k j
    refine (whole_cov _ _ _ k j).trans ?_
    have hk' : (ix2 k j 0).val = k.val := rfl
    have hj' : (ix2 k j 1).val = j.val := rfl
    canon_tiles z h
    all_goals first
      | (have hb : j.val < 256 := by omega
         rw [wBoth, if_pos hb]
         exact deq x1 x3 _ _ (i 0).val (by rfl) (by rfl) _ _ (by rfl) _ _ z _ _ (by omega) (by omega))
      | (have hb : ¬ j.val < 256 := by omega
         rw [wBoth, if_neg hb]
         exact deq x2 x4 _ _ (i 0).val (by rfl) (by rfl) _ _ (by rfl) _ _ z _ _ (by omega) (by omega))

set_option maxHeartbeats 4000000 in
/-- The products that a point of case B leaves, at an index. -/
theorem B_gp (c : Dev nD) (i : grid0.Coords) (arg1 : Memref sig .tc .vmem S1536x2560 .bf16) (harg1 : arg1.IsWhole) (arg2 : Memref sig .tc .vmem S2560x256 .fp8e4m3) (harg2 : arg2.IsWhole) (arg3 : Memref sig .tc .vmem S2560x256 .fp8e4m3) (harg3 : arg3.IsWhole) (arg4 : Memref sig .tc .smem S20x54 .f32) (harg4 : arg4.IsWhole) (arg5 : Memref sig .tc .smem S20x54 .f32) (harg5 : arg5.IsWhole) (arg6 : Memref sig .tc .vmem S2x768x256 .fp8e4m3) (harg6 : arg6.IsWhole) (arg7 : Memref sig .tc .vmem S2x256x768 .fp8e4m3) (harg7 : arg7.IsWhole) (arg8 : Memref sig .tc .vmem S1536x256 .bf16) (harg8 : arg8.IsWhole) (arg9 : Memref sig .tc .vmem S2x2x768 .f32) (harg9 : arg9.IsWhole) (arg10 : Memref sig .tc .vmem S6x2x256 .f32) (harg10 : arg10.IsWhole) (arg11 : Memref sig .tc .vmem S2560x512 .bf16) (harg11 : arg11.IsWhole) (arg12 : Memref sig .tc .vmem S1536x512 .f32) (harg12 : arg12.IsWhole) (hc0 : ¬cond0_0 i) (hc1 : cond0_1 i) (hc2 : ¬cond0_2 i)
    (x0 : Vec Ideal S1536x2560 .bf16) (x1 : Vec Ideal S2560x256 .fp8e4m3) (x2 : Vec Ideal S2560x256 .fp8e4m3) (x3 : Vec Ideal S20x54 .f32) (x4 : Vec Ideal S20x54 .f32) (xs1 : Vec Ideal S1536x512 .f32) (y : S1536x512.Idx) : sout0_B_1 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs1 y = dotAt x0 x1 x2 x3 x4 (i 0).val (y 0).val (y 1).val := by
  frame_open
  frame_out
  canon_tiles x h
  all_goals
    refine chunk x0 x1 x2 x3 x4 (i 0).val _ _ _ ?_ x _ _ (by omega) (by omega)
    intro k j
    refine (whole_cov _ _ _ k j).trans ?_
    have hk' : (ix2 k j 0).val = k.val := rfl
    have hj' : (ix2 k j 1).val = j.val := rfl
    canon_tiles z h
    all_goals first
      | (have hb : j.val < 256 := by omega
         rw [wBoth, if_pos hb]
         exact deq x1 x3 _ _ (i 0).val (by rfl) (by rfl) _ _ (by rfl) _ _ z _ _ (by omega) (by omega))
      | (have hb : ¬ j.val < 256 := by omega
         rw [wBoth, if_neg hb]
         exact deq x2 x4 _ _ (i 0).val (by rfl) (by rfl) _ _ (by rfl) _ _ z _ _ (by omega) (by omega))

end Cert.KernelIdeal.Gp
-- ==== Proof.Ref.lean ====
module

public import proofs.«01_k».proof.Proof.Gen.ReferenceIdeal.Value
public import proofs.«01_k».proof.Proof.Tile
public import Idealize.ShloMosaic.Lib.Pointwise
public import Idealize.ShloMosaic.Lib.Pipeline.ValueKit

/-! The reference's five results at an index, in terms of the activations. -/

@[expose] public section

set_option maxRecDepth 16384

noncomputable section

namespace Cert.Quant

open Idealize.ShloMosaic Cert.QuantScale

/-- The activation at row `t`, column `f`: the two products with the dequantised weights, gated. -/
def Href (a : Vec Ideal (⟨2, ![1536, 2560]⟩ : Shape) .bf16) (wg wu : Vec Ideal (⟨2, ![2560, 6912]⟩ : Shape) .fp8e4m3)
    (sg su : Vec Ideal (⟨2, ![20, 54]⟩ : Shape) .f32) (t f : ℕ) : EReal :=
  act (∑ k : Fin 2560, a (ix2 (⟨t % 1536, Nat.mod_lt _ (by decide)⟩ : Fin 1536) k) * (wg (ix2 k (⟨f % 6912, Nat.mod_lt _ (by decide)⟩ : Fin 6912)) *
      sg (ix2 (⟨k.val / 128, by omega⟩ : Fin 20) (⟨f / 128 % 54, Nat.mod_lt _ (by decide)⟩ : Fin 54))))
    (∑ k : Fin 2560, a (ix2 (⟨t % 1536, Nat.mod_lt _ (by decide)⟩ : Fin 1536) k) * (wu (ix2 k (⟨f % 6912, Nat.mod_lt _ (by decide)⟩ : Fin 6912)) *
      su (ix2 (⟨k.val / 128, by omega⟩ : Fin 20) (⟨f / 128 % 54, Nat.mod_lt _ (by decide)⟩ : Fin 54))))

end Cert.Quant

namespace Cert.ReferenceIdeal.RefAt

open Cert.ReferenceIdeal Cert.ReferenceIdeal.Gen Idealize.ShloMosaic Idealize.ShloMosaic.TcCoe Idealize.SL.Sem
open Cert.QuantScale Cert.Quant

theorem gmx (v : FVec Ideal S2x768x54x128 .f32) (b : Fin 2) (s : Fin 768) (f : Fin 54) :
    multiReduction .maximumf [3] S2x768x54 (absf v) 0xFF800000#32 reduces_S2x768x54x128_S2x768x54 (.inl rfl) rfl (ix3 b s f)
      = Finset.fold max (Ideal.ofBits FTy.f32 4286578688#32) (fun x => FloatOps.absf (F := Ideal) (φ := .f32) (v (ix4 b s f x))) Finset.univ := by
  pointwise

/-- A product of two vectors at an index. -/
theorem gmp (v w : FVec Ideal S2x768x54 .f32) (j : S2x768x54.Idx) : mulf v w j = v j * w j := rfl

theorem gm (v : FVec Ideal S2x768x54x128 .f32) (b : Fin 2) (s : Fin 768) (f : Fin 54) :
    mulf (multiReduction .maximumf [3] S2x768x54 (absf v) 0xFF800000#32 reduces_S2x768x54x128_S2x768x54 (.inl rfl) rfl)
      (broadcast S2x768x54 (Scalar.ofBits .f32 0x3B124925#32)) (ix3 b s f) = amax fun x => v (ix4 b s f x) := by
  rw [gmp, gmx]
  rfl

theorem tmx (v : FVec Ideal S2x6912x6x128 .f32) (b : Fin 2) (s : Fin 6912) (f : Fin 6) :
    multiReduction .maximumf [3] S2x6912x6 (absf v) 0xFF800000#32 reduces_S2x6912x6x128_S2x6912x6 (.inl rfl) rfl (ix3 b s f)
      = Finset.fold max (Ideal.ofBits FTy.f32 4286578688#32) (fun x => FloatOps.absf (F := Ideal) (φ := .f32) (v (ix4 b s f x))) Finset.univ := by
  pointwise

/-- A product of two vectors at an index. -/
theorem tmp (v w : FVec Ideal S2x6912x6 .f32) (j : S2x6912x6.Idx) : mulf v w j = v j * w j := rfl

theorem tm (v : FVec Ideal S2x6912x6x128 .f32) (b : Fin 2) (s : Fin 6912) (f : Fin 6) :
    mulf (multiReduction .maximumf [3] S2x6912x6 (absf v) 0xFF800000#32 reduces_S2x6912x6x128_S2x6912x6 (.inl rfl) rfl)
      (broadcast S2x6912x6 (Scalar.ofBits .f32 0x3B124925#32)) (ix3 b s f) = amax fun x => v (ix4 b s f x) := by
  rw [tmp, tmx]
  rfl

section
variable (a : Vec Ideal S1536x2560 .bf16) (wg wu : Vec Ideal S2560x6912 .fp8e4m3) (sg su : Vec Ideal S20x54 .f32)

theorem h_at (i : Fin 1536) (j : Fin 6912) : k0_pay4 a wg sg a wu su (ix2 i j) = Href a wg wu sg su i.val j.val := by
  have e1 : (⟨i.val % 1536, Nat.mod_lt _ (by decide)⟩ : Fin 1536) = i := Fin.ext (Nat.mod_eq_of_lt i.isLt)
  have e2 : (⟨j.val % 6912, Nat.mod_lt _ (by decide)⟩ : Fin 6912) = j := Fin.ext (Nat.mod_eq_of_lt j.isLt)
  have hj := j.isLt
  have e3 : (⟨j.val / 128 % 54, Nat.mod_lt _ (by decide)⟩ : Fin 54) = ⟨j.val / 128, by omega⟩ := Fin.ext (Nat.mod_eq_of_lt (by omega))
  unfold Href act
  rw [e1, e2, e3]
  pointwise [k0_pay4]

theorem g_at (b : Fin 2) (s : Fin 768) (f : Fin 54) (x : Fin 128) :
    k0_pay5 a wg sg a wu su (ix4 b s f x) = Href a wg wu sg su (768 * b.val + s.val) (128 * f.val + x.val) := by
  rw [show k0_pay5 a wg sg a wu su (ix4 b s f x) = k0_pay4 a wg sg a wu su (ix2 ⟨768 * b.val + s.val, by omega⟩ ⟨128 * f.val + x.val, by omega⟩) from by
    generalize hv : k0_pay4 a wg sg a wu su = v
    unfold k0_pay5
    rw [hv]
    pointwise
    blk_ext]
  rw [h_at]

theorem gmax_at (b : Fin 2) (s : Fin 768) (f : Fin 54) :
    k0_pay6 a wg sg a wu su (ix3 b s f) = amax fun x => Href a wg wu sg su (768 * b.val + s.val) (128 * f.val + x.val) := by
  refine Eq.trans (b := amax fun x => k0_pay5 a wg sg a wu su (ix4 b s f x)) ?_ (congrArg amax (funext fun x => g_at a wg wu sg su b s f x))
  unfold k0_pay6
  exact gm _ b s f
end

theorem rs_at (v : FVec Ideal S2x768x54 .f32) (b : Fin 2) (s : Fin 768) (f : Fin 54) :
  k0_pay9 v k0_pay7 (ori (cmpf .olt (broadcastTo S2x768x54x256 (shapeCast S2x768x54x1 v shapeCasts_S2x768x54_S2x768x54x1) broadcasts_S2x768x54x1_S2x768x54x256) (k0_pay7 (F := Ideal))) (cmpi .eq (iota .tc S2x768x54x256 32 [3] iota_S2x768x54x256_d3_w32) (broadcast S2x768x54x256 246#32))) (ix3 b s f) = rScale (v (ix3 b s f)) := by
  unfold rScale cand
  pointwise [k0_pay9, k0_pay7]

theorem cs_at (v : FVec Ideal S2x6912x6 .f32) (b : Fin 2) (s : Fin 6912) (f : Fin 6) :
  k0_pay1 v (iota .tc S2x6912x6x256 32 [3] iota_S2x6912x6x256_d3_w32) (k0_pay16 (F := Ideal)) (ix3 b s f) = rScale (v (ix3 b s f)) := by
  unfold rScale cand
  pointwise [k0_pay1, k0_pay16]

theorem t_at (v : FVec Ideal S1536x6912 .f32) (b : Fin 2) (f : Fin 6912) (q : Fin 6) (x : Fin 128) :
    k0_pay14 v (ix4 b f q x) = v (ix2 ⟨768 * b.val + 128 * q.val + x.val, by omega⟩ f) := by
  pointwise [k0_pay14]
  blk_ext

theorem tmax_at (v : FVec Ideal S1536x6912 .f32) (b : Fin 2) (f : Fin 6912) (q : Fin 6) :
    k0_pay15 v (ix3 b f q) = amax fun x => v (ix2 ⟨768 * b.val + 128 * q.val + x.val, by omega⟩ f) := by
  refine Eq.trans (b := amax fun x => k0_pay14 v (ix4 b f q x)) ?_ (congrArg amax (funext fun x => t_at v b f q x))
  unfold k0_pay15
  exact tm _ b f q

end Cert.ReferenceIdeal.RefAt
-- ==== Proof.Ref2.lean ====
module

public import proofs.«01_k».proof.Proof.Ref

/-! The reference's five arrays at an index. -/

@[expose] public section

set_option maxRecDepth 16384

noncomputable section

namespace Cert.ReferenceIdeal.RefAt

open Cert.ReferenceIdeal Cert.ReferenceIdeal.Gen Idealize.ShloMosaic Idealize.ShloMosaic.TcCoe Idealize.SL.Sem
open Cert.QuantScale Cert.Quant

theorem enc_at (v26 : FVec Ideal S2x768x54x128 .f32) (v30 : FVec Ideal S2x768x54 .f32) (v35 : FVec Ideal S2x768x54x256 .f32) (v41 : IVec S2x768x54x256 1)
    (b : Fin 2) (s : Fin 768) (f : Fin 54) (x : Fin 128) :
    k0_pay10 v26 v30 v35 v41 (ix4 b s f x) = code (v26 (ix4 b s f x)) (k0_pay9 v30 v35 v41 (ix3 b s f)) := by
  unfold k0_pay10 code
  generalize k0_pay9 v30 v35 v41 = w
  pointwise
  try rfl

theorem flat_at (w : FVec Ideal S2x768x54x128 .fp8e4m3) (b : Fin 2) (s : Fin 768) (f : Fin 6912) :
    shapeCast S2x768x6912 w shapeCasts_S2x768x54x128_S2x768x6912 (ix3 b s f) = w (ix4 b s ⟨f.val / 128, by omega⟩ ⟨f.val % 128, by omega⟩) := by
  pointwise

theorem back_at (w : FVec Ideal S2x768x54x128 .fp8e4m3) (v : FVec Ideal S2x768x54 .f32) (t : Fin 1536) (f : Fin 6912) :
    shapeCast S1536x6912 (mulf (extf .bf16 w bitsLt_fp8e4m3_bf16) (broadcastTo S2x768x54x128 (shapeCast S2x768x54x1 (truncf .bf16 v bitsLt_bf16_f32) shapeCasts_S2x768x54_S2x768x54x1) broadcasts_S2x768x54x1_S2x768x54x128)) shapeCasts_S2x768x54x128_S1536x6912 (ix2 t f)
      = w (ix4 ⟨t.val / 768, by omega⟩ ⟨t.val % 768, by omega⟩ ⟨f.val / 128, by omega⟩ ⟨f.val % 128, by omega⟩) * v (ix3 ⟨t.val / 768, by omega⟩ ⟨t.val % 768, by omega⟩ ⟨f.val / 128, by omega⟩) := by
  pointwise

theorem tr_at (v : FVec Ideal S2x768x54 .f32) (f : Fin 54) (b : Fin 2) (s : Fin 768) :
    transpose S54x2x768 [2, 0, 1] v transposes_S2x768x54_p2_0_1_S54x2x768 (ix3 f b s) = v (ix3 b s f) := by
  pointwise

theorem tr'_at (v : FVec Ideal S2x6912x6 .f32) (q : Fin 6) (b : Fin 2) (f : Fin 6912) :
    transpose S6x2x6912 [2, 0, 1] v transposes_S2x6912x6_p2_0_1_S6x2x6912 (ix3 q b f) = v (ix3 b f q) := by
  pointwise

theorem tenc_at (v72 : FVec Ideal S2x6912x6x128 .f32) (v76 : FVec Ideal S2x6912x6 .f32) (v77 : IVec S2x6912x6x256 32) (v80 : FVec Ideal S2x6912x6x256 .f32)
    (b : Fin 2) (f : Fin 6912) (s : Fin 768) :
    k0_pay2 v72 v76 v77 v80 (ix3 b f s) = code (v72 (ix4 b f ⟨s.val / 128, by omega⟩ ⟨s.val % 128, by omega⟩)) (k0_pay1 v76 v77 v80 (ix3 b f ⟨s.val / 128, by omega⟩)) := by
  unfold k0_pay2 code
  generalize k0_pay1 v76 v77 v80 = w
  pointwise
  try rfl

section
variable (a : Vec Ideal S1536x2560 .bf16) (wg wu : Vec Ideal S2560x6912 .fp8e4m3) (sg su : Vec Ideal S20x54 .f32)

theorem ld0 : View.ld a r0_0 = a := funext fun j => congrArg a (funext fun z => Fin.ext (by fin_cases z <;> (show 0 + 1 * _ = _; omega)))
theorem ld1 : View.ld wg r0_1 = wg := funext fun j => congrArg wg (funext fun z => Fin.ext (by fin_cases z <;> (show 0 + 1 * _ = _; omega)))
theorem ld2 : View.ld sg r0_2 = sg := funext fun j => congrArg sg (funext fun z => Fin.ext (by fin_cases z <;> (show 0 + 1 * _ = _; omega)))

theorem rowScale_at (b : Fin 2) (s : Fin 768) (f : Fin 54) :
    k0_pay9 (k0_pay19 a wg wu sg su) (k0_pay20 a wg wu sg su) (k0_pay21 a wg wu sg su) (ix3 b s f) = rowScale (Href a wg wu sg su) (768 * b.val + s.val) f.val := by
  unfold k0_pay19 k0_pay20 k0_pay21 k0_pay8
  rw [ld0, ld1, ld1, ld2, ld2]
  refine (rs_at (k0_pay6 a wg sg a wu su) b s f).trans ?_
  rw [gmax_at]
  rfl

theorem colScale_at (b : Fin 2) (f : Fin 6912) (q : Fin 6) :
    k0_pay1 (k0_pay23 a wg wu sg su) (k0_pay22 a wg wu sg su) (k0_pay24 a wg wu sg su) (ix3 b f q) = colScale (Href a wg wu sg su) (6 * b.val + q.val) f.val := by
  unfold k0_pay23 k0_pay22 k0_pay24 k0_pay17
  rw [ld0, ld1, ld1, ld2, ld2]
  refine (cs_at (k0_pay15 (k0_pay4 a wg sg a wu su)) b f q).trans ?_
  rw [tmax_at]
  unfold colScale
  congr 2
  funext x
  rw [h_at]
  congr 1
  show 768 * b.val + 128 * q.val + x.val = 128 * (6 * b.val + q.val) + x.val
  omega

theorem rowCode_at (b : Fin 2) (s : Fin 768) (f : Fin 54) (x : Fin 128) :
    k0_pay10 (k0_pay18 a wg wu sg su) (k0_pay19 a wg wu sg su) (k0_pay20 a wg wu sg su) (k0_pay21 a wg wu sg su) (ix4 b s f x)
      = rowCode (Href a wg wu sg su) (768 * b.val + s.val) (128 * f.val + x.val) := by
  rw [enc_at, rowScale_at]
  unfold k0_pay18
  rw [ld0, ld1, ld1, ld2, ld2, g_at]
  unfold rowCode
  rw [show (128 * f.val + x.val) / 128 = f.val by omega]

theorem G5_at (b : Fin 2) (s : Fin 768) (f : Fin 6912) : Value.G5 a wg wu sg su (ix3 b s f) = rowCode (Href a wg wu sg su) (768 * b.val + s.val) f.val := by
  unfold Value.G5 k0_pay11
  rw [flat_at]
  rw [rowCode_at]
  show rowCode _ _ (128 * (f.val / 128) + f.val % 128) = _
  rw [Nat.div_add_mod]

theorem G7_at (t : Fin 1536) (f : Fin 6912) : Value.G7 a wg wu sg su (ix2 t f) = rowBack (Href a wg wu sg su) t.val f.val := by
  unfold Value.G7 k0_pay12
  rw [back_at]
  rw [rowCode_at, rowScale_at]
  show rowCode _ (768 * (t.val / 768) + t.val % 768) (128 * (f.val / 128) + f.val % 128) * rowScale _ (768 * (t.val / 768) + t.val % 768) (f.val / 128) = _
  rw [Nat.div_add_mod, Nat.div_add_mod]
  rfl

theorem G8_at (f : Fin 54) (b : Fin 2) (s : Fin 768) : Value.G8 a wg wu sg su (ix3 f b s) = rowScale (Href a wg wu sg su) (768 * b.val + s.val) f.val := by
  unfold Value.G8 k0_pay13
  rw [tr_at, rowScale_at]

theorem G9_at (q : Fin 6) (b : Fin 2) (f : Fin 6912) : Value.G9 a wg wu sg su (ix3 q b f) = colScale (Href a wg wu sg su) (6 * b.val + q.val) f.val := by
  unfold Value.G9 k0_pay3
  rw [tr'_at, colScale_at]

theorem G6_at (b : Fin 2) (f : Fin 6912) (s : Fin 768) : Value.G6 a wg wu sg su (ix3 b f s) = colCode (Href a wg wu sg su) (768 * b.val + s.val) f.val := by
  unfold Value.G6
  rw [tenc_at, colScale_at, t_at]
  unfold k0_pay17
  rw [ld0, ld1, ld1, ld2, ld2, h_at]
  unfold colCode
  show code (Href _ _ _ _ _ (768 * b.val + 128 * (s.val / 128) + s.val % 128) _) (colScale _ (6 * b.val + s.val / 128) _) = _
  rw [show 768 * b.val + 128 * (s.val / 128) + s.val % 128 = 768 * b.val + s.val by omega, show 6 * b.val + s.val / 128 = (768 * b.val + s.val) / 128 by omega]

end

end Cert.ReferenceIdeal.RefAt
-- ==== Proof.Final.lean ====
module

public import proofs.«01_k».proof.Proof.Gen.KernelIdeal.Value
public import proofs.«01_k».proof.Proof.Pieces
public import proofs.«01_k».proof.Proof.Gp
public import proofs.«01_k».proof.Proof.Ref2
public import Idealize.ShloMosaic.Lib.Pipeline.ValueKit
public import Idealize.ShloMosaic.Lib.Pipeline.ReadBack

/-! The kernel's five arrays after the run, at an index, in terms of the activations. -/

@[expose] public section

set_option maxRecDepth 16384

noncomputable section

namespace Cert.Quant

open Idealize.ShloMosaic Cert.QuantScale

section
variable {H K : ℕ → ℕ → EReal} {u : ℕ} (h : ∀ r f, r < 1536 → f < 256 → H r f = K r (256 * u + f))
include h

theorem rowScale_blk (t s : ℕ) (ht : t < 1536) (hs : s < 2) : rowScale H t s = rowScale K t (2 * u + s) := by
  unfold rowScale
  congr 2
  funext x
  have hx := x.isLt
  rw [h _ _ ht (by omega)]
  congr 1
  omega

theorem colScale_blk (q f : ℕ) (hq : q < 12) (hf : f < 256) : colScale H q f = colScale K q (256 * u + f) := by
  unfold colScale
  congr 2
  funext x
  have hx := x.isLt
  rw [h _ _ (by omega) hf]

theorem rowCode_blk (t f : ℕ) (ht : t < 1536) (hf : f < 256) : rowCode H t f = rowCode K t (256 * u + f) := by
  unfold rowCode
  rw [h _ _ ht hf, rowScale_blk h _ _ ht (by omega), show (256 * u + f) / 128 = 2 * u + f / 128 by omega]

theorem rowBack_blk (t f : ℕ) (ht : t < 1536) (hf : f < 256) : rowBack H t f = rowBack K t (256 * u + f) := by
  unfold rowBack
  rw [rowCode_blk h _ _ ht hf, rowScale_blk h _ _ ht (by omega), show (256 * u + f) / 128 = 2 * u + f / 128 by omega]

theorem colCode_blk (t f : ℕ) (ht : t < 1536) (hf : f < 256) : colCode H t f = colCode K t (256 * u + f) := by
  unfold colCode
  rw [h _ _ ht hf, colScale_blk h _ _ (by omega) hf]
end

end Cert.Quant

namespace Cert.KernelIdeal.Final

open Cert.Quant Cert.KernelIdeal.Tile Cert.KernelIdeal.Gp Cert.KernelIdeal.Pieces Cert.KernelIdeal Cert.KernelIdeal.Gen Idealize.ShloMosaic Idealize.ShloMosaic.TcCoe Idealize.SL.Sem
open Idealize.ShloMosaic.Pipeline (Dat)
open Idealize.ShloMosaic.Tactic

variable (m : (ℓ : Loc nD τ sig) → Buf (Elt Ideal) ℓ)

theorem coord : ∀ t : Fin cfg0.N, (grid0.coords t 0).val = t.val := (by decide +kernel : ∀ t : Fin grid0.N, (grid0.coords t 0).val = t.val)

theorem idx_in : ∀ t : Fin cfg0.N, win0_0.index t = ![0, 0] ∧ win0_1.index t = ![0, min t.val 26] ∧ win0_2.index t = ![0, min t.val 26]
    ∧ win0_3.index t = ![0, 0] ∧ win0_4.index t = ![0, 0] :=
  (by decide +kernel : ∀ t : Fin grid0.N, _)

theorem idx_out : ∀ t : Fin cfg0.N, win0_5.index t = ![0, 0, t.val - 1] ∧ win0_6.index t = ![0, t.val - 1, 0] ∧ win0_7.index t = ![0, t.val - 1]
    ∧ win0_8.index t = ![t.val - 1, 0, 0] ∧ win0_9.index t = ![0, 0, t.val - 1] :=
  (by decide +kernel : ∀ t : Fin grid0.N, _)

theorem flush_pos : ∀ t : Fin cfg0.N, ((cfg0.win 5).flush t = true → 1 ≤ t.val) ∧ ((cfg0.win 6).flush t = true → 1 ≤ t.val)
    ∧ ((cfg0.win 7).flush t = true → 1 ≤ t.val) ∧ ((cfg0.win 8).flush t = true → 1 ≤ t.val) ∧ ((cfg0.win 9).flush t = true → 1 ≤ t.val) :=
  (by decide +kernel : ∀ t : Fin grid0.N, _)

/-- The activations of the arguments. -/
abbrev Hm (c : Dev nD) : ℕ → ℕ → EReal :=
  Href (m ((c : Thread nD τ).loc main_arg0)) (m ((c : Thread nD τ).loc main_arg1)) (m ((c : Thread nD τ).loc main_arg2))
    (m ((c : Thread nD τ).loc main_arg3)) (m ((c : Thread nD τ).loc main_arg4))

/-- The products a point leaves. -/
abbrev gp (c : Dev nD) (t : ℕ) (ht : t < cfg0.N) : Vec Ideal S1536x512 .f32 := (outsAt0 m c t ht).2.2.2.2.2

theorem gp_at (c : Dev nD) (t : Fin cfg0.N) (ht : t.val < 27) (y : S1536x512.Idx) :
    gp m c t.val t.isLt y = dotAt (iblk m c 0 t) (iblk m c 1 t) (iblk m c 2 t) (iblk m c 3 t) (iblk m c 4 t) t.val (y 0).val (y 1).val := by
  unfold gp
  by_cases h0 : t.val % 28 = 0
  · rw [outsAt0_A m c t h0 ht (by omega)]
    dsimp only
    rw [A_gp, coord]
  · rw [outsAt0_B m c t h0 ht (by omega)]
    dsimp only
    rw [B_gp, coord]

theorem rd0 (c : Dev nD) (t : Fin cfg0.N) (i : Fin 1536) (k : Fin 2560) :
    (show Vec Ideal S1536x2560 .bf16 from iblk m c 0 t) (ix2 i k) = m ((c : Thread nD τ).loc main_arg0) (ix2 i k) := by
  blk_ext [iblk, V, idx_in t]

theorem rd1 (c : Dev nD) (t : Fin cfg0.N) (ht : t.val < 27) (k : Fin 2560) (j : Fin 256) :
    (show Vec Ideal S2560x256 .fp8e4m3 from iblk m c 1 t) (ix2 k j) = m ((c : Thread nD τ).loc main_arg1) (ix2 k (⟨256 * t.val + j.val, by omega⟩ : Fin 6912)) := by
  have h : min t.val 26 = t.val := by omega
  blk_ext [iblk, V, idx_in t, h]

theorem rd2 (c : Dev nD) (t : Fin cfg0.N) (ht : t.val < 27) (k : Fin 2560) (j : Fin 256) :
    (show Vec Ideal S2560x256 .fp8e4m3 from iblk m c 2 t) (ix2 k j) = m ((c : Thread nD τ).loc main_arg2) (ix2 k (⟨256 * t.val + j.val, by omega⟩ : Fin 6912)) := by
  have h : min t.val 26 = t.val := by omega
  blk_ext [iblk, V, idx_in t, h]

theorem rd3 (c : Dev nD) (t : Fin cfg0.N) (i : Fin 20) (k : Fin 54) :
    (show Vec Ideal S20x54 .f32 from iblk m c 3 t) (ix2 i k) = m ((c : Thread nD τ).loc main_arg3) (ix2 i k) := by
  blk_ext [iblk, V, idx_in t]

theorem rd4 (c : Dev nD) (t : Fin cfg0.N) (i : Fin 20) (k : Fin 54) :
    (show Vec Ideal S20x54 .f32 from iblk m c 4 t) (ix2 i k) = m ((c : Thread nD τ).loc main_arg4) (ix2 i k) := by
  blk_ext [iblk, V, idx_in t]

/-- A block of products and the array of products, place by place. -/
theorem dot_eq (x0 X0 : Vec Ideal S1536x2560 .bf16) (x1 x2 : Vec Ideal S2560x256 .fp8e4m3) (x3 x4 : Vec Ideal S20x54 .f32)
    (W : Vec Ideal (⟨2, ![2560, 6912]⟩ : Shape) .fp8e4m3) (Sc : Vec Ideal S20x54 .f32) (u f b r : ℕ) (hu : u < 27) (hf : f < 256) (hr : r < 1536)
    (h0 : ∀ (i : Fin 1536) (k : Fin 2560), x0 (ix2 i k) = X0 (ix2 i k))
    (hw : ∀ k : ℕ, wBoth x1 x2 x3 x4 u k b = W (ix2 (⟨k % 2560, Nat.mod_lt _ (by decide)⟩ : Fin 2560) (⟨256 * u + f, by omega⟩ : Fin 6912))
      * Sc (ix2 (⟨k / 128 % 20, Nat.mod_lt _ (by decide)⟩ : Fin 20) (⟨(2 * u + f / 128) % 54, Nat.mod_lt _ (by decide)⟩ : Fin 54))) :
    dotAt x0 x1 x2 x3 x4 u r b = ∑ k : Fin 2560, X0 (ix2 (⟨r % 1536, Nat.mod_lt _ (by decide)⟩ : Fin 1536) k)
      * (W (ix2 k (⟨(256 * u + f) % 6912, Nat.mod_lt _ (by decide)⟩ : Fin 6912))
        * Sc (ix2 (⟨k.val / 128, by omega⟩ : Fin 20) (⟨(256 * u + f) / 128 % 54, Nat.mod_lt _ (by decide)⟩ : Fin 54))) := by
  unfold dotAt
  refine Finset.sum_congr rfl fun k _ => ?_
  have hk := k.isLt
  rw [h0, hw]
  have e1 : (⟨k.val % 2560, Nat.mod_lt _ (by decide)⟩ : Fin 2560) = k := Fin.ext (Nat.mod_eq_of_lt hk)
  have e2 : (⟨(256 * u + f) % 6912, Nat.mod_lt _ (by decide)⟩ : Fin 6912) = ⟨256 * u + f, by omega⟩ := Fin.ext (Nat.mod_eq_of_lt (by omega))
  have e3 : (⟨k.val / 128 % 20, Nat.mod_lt _ (by decide)⟩ : Fin 20) = ⟨k.val / 128, by omega⟩ := Fin.ext (Nat.mod_eq_of_lt (by omega))
  have e4 : (⟨(2 * u + f / 128) % 54, Nat.mod_lt _ (by decide)⟩ : Fin 54) = ⟨(256 * u + f) / 128 % 54, Nat.mod_lt _ (by decide)⟩ := Fin.ext (by
    show (2 * u + f / 128) % 54 = (256 * u + f) / 128 % 54
    omega)
  rw [e1, e2, e3, e4]

theorem hgp (c : Dev nD) (t : Fin cfg0.N) (ht : t.val < 27) (r f : ℕ) (hr : r < 1536) (hf : f < 256) :
    Hgp (gp m c t.val t.isLt) r f = Hm m c r (256 * t.val + f) := by
  have hfm : (⟨f % 256, Nat.mod_lt _ (by decide)⟩ : Fin 256) = ⟨f, hf⟩ := Fin.ext (Nat.mod_eq_of_lt hf)
  unfold Hgp Hm Href vat
  congr 1
  · rw [gp_at m c t ht]
    show dotAt _ _ _ _ _ _ (r % 1536) (f % 512) = _
    have key := dot_eq (iblk m c 0 t) (m ((c : Thread nD τ).loc main_arg0)) (iblk m c 1 t) (iblk m c 2 t) (iblk m c 3 t) (iblk m c 4 t)
      (m ((c : Thread nD τ).loc main_arg1)) (m ((c : Thread nD τ).loc main_arg3)) t.val f f r ht hf hr (fun i k => rd0 m c t i k) (fun k => by
        rw [wBoth, if_pos hf]
        unfold wAt
        rw [hfm]
        exact congrArg₂ (· * ·) (rd1 m c t ht _ _) (rd3 m c t _ _))
    refine Eq.trans ?_ key
    congr 1
    · exact Nat.mod_eq_of_lt hr
    · exact Nat.mod_eq_of_lt (show f < 512 by omega)
  · rw [gp_at m c t ht]
    show dotAt _ _ _ _ _ _ (r % 1536) ((256 + f) % 512) = _
    have key := dot_eq (iblk m c 0 t) (m ((c : Thread nD τ).loc main_arg0)) (iblk m c 1 t) (iblk m c 2 t) (iblk m c 3 t) (iblk m c 4 t)
      (m ((c : Thread nD τ).loc main_arg2)) (m ((c : Thread nD τ).loc main_arg4)) t.val f (256 + f) r ht hf hr (fun i k => rd0 m c t i k) (fun k => by
        rw [wBoth, if_neg (by omega), show 256 + f - 256 = f by omega]
        unfold wAt
        rw [hfm]
        exact congrArg₂ (· * ·) (rd2 m c t ht _ _) (rd4 m c t _ _))
    refine Eq.trans ?_ key
    congr 1
    · exact Nat.mod_eq_of_lt hr
    · exact Nat.mod_eq_of_lt (show 256 + f < 512 by omega)

/-- The products a point past the first found are those of the block before. -/
theorem hprev (c : Dev nD) (t : Fin cfg0.N) (ht : 1 ≤ t.val) (hl : t.val - 1 < cfg0.N) (r f : ℕ) (hr : r < 1536) (hf : f < 256) :
    Hgp (outsAt0 m c (t.val - 1) hl).2.2.2.2.2 r f = Hm m c r (256 * (t.val - 1) + f) := by
  have hN : t.val < 28 := lt_of_lt_of_eq t.isLt N_0
  exact hgp m c ⟨t.val - 1, hl⟩ (show t.val - 1 < 27 by omega) r f hr hf

theorem blk5 (c : Dev nD) (t : Fin cfg0.N) (ht : 1 ≤ t.val) (y : S2x768x256.Idx) :
    (outsAt0 m c t.val t.isLt).1 y = rowCode (Hm m c) (768 * (y 0).val + (y 1).val) (256 * (t.val - 1) + (y 2).val) := by
  have hN : t.val < 28 := lt_of_lt_of_eq t.isLt N_0
  have y0 : (y 0).val < 2 := (y 0).isLt
  have y1 : (y 1).val < 768 := (y 1).isLt
  have y2 : (y 2).val < 256 := (y 2).isLt
  by_cases h1 : t.val < 27
  · rw [outsAt0_B m c t (by omega) h1 (by omega)]
    dsimp only
    rw [B_5]
    exact rowCode_blk (hprev m c t ht _) _ _ (by omega) (by omega)
  · rw [outsAt0_C m c t (by omega) h1 (by omega)]
    dsimp only
    rw [C_5]
    exact rowCode_blk (hprev m c t ht _) _ _ (by omega) (by omega)

theorem blk6 (c : Dev nD) (t : Fin cfg0.N) (ht : 1 ≤ t.val) (y : S2x256x768.Idx) :
    (outsAt0 m c t.val t.isLt).2.1 y = colCode (Hm m c) (768 * (y 0).val + (y 2).val) (256 * (t.val - 1) + (y 1).val) := by
  have hN : t.val < 28 := lt_of_lt_of_eq t.isLt N_0
  have y0 : (y 0).val < 2 := (y 0).isLt
  have y1 : (y 1).val < 256 := (y 1).isLt
  have y2 : (y 2).val < 768 := (y 2).isLt
  by_cases h1 : t.val < 27
  · rw [outsAt0_B m c t (by omega) h1 (by omega)]
    dsimp only
    rw [B_6]
    exact colCode_blk (hprev m c t ht _) _ _ (by omega) (by omega)
  · rw [outsAt0_C m c t (by omega) h1 (by omega)]
    dsimp only
    rw [C_6]
    exact colCode_blk (hprev m c t ht _) _ _ (by omega) (by omega)

theorem blk7 (c : Dev nD) (t : Fin cfg0.N) (ht : 1 ≤ t.val) (y : S1536x256.Idx) :
    (outsAt0 m c t.val t.isLt).2.2.1 y = rowBack (Hm m c) (y 0).val (256 * (t.val - 1) + (y 1).val) := by
  have hN : t.val < 28 := lt_of_lt_of_eq t.isLt N_0
  have y0 : (y 0).val < 1536 := (y 0).isLt
  have y1 : (y 1).val < 256 := (y 1).isLt
  by_cases h1 : t.val < 27
  · rw [outsAt0_B m c t (by omega) h1 (by omega)]
    dsimp only
    rw [B_7]
    exact rowBack_blk (hprev m c t ht _) _ _ (by omega) (by omega)
  · rw [outsAt0_C m c t (by omega) h1 (by omega)]
    dsimp only
    rw [C_7]
    exact rowBack_blk (hprev m c t ht _) _ _ (by omega) (by omega)

theorem blk8 (c : Dev nD) (t : Fin cfg0.N) (ht : 1 ≤ t.val) (y : S2x2x768.Idx) :
    (outsAt0 m c t.val t.isLt).2.2.2.1 y = rowScale (Hm m c) (768 * (y 1).val + (y 2).val) (2 * (t.val - 1) + (y 0).val) := by
  have hN : t.val < 28 := lt_of_lt_of_eq t.isLt N_0
  have y0 : (y 0).val < 2 := (y 0).isLt
  have y1 : (y 1).val < 2 := (y 1).isLt
  have y2 : (y 2).val < 768 := (y 2).isLt
  by_cases h1 : t.val < 27
  · rw [outsAt0_B m c t (by omega) h1 (by omega)]
    dsimp only
    rw [B_8]
    exact rowScale_blk (hprev m c t ht _) _ _ (by omega) (by omega)
  · rw [outsAt0_C m c t (by omega) h1 (by omega)]
    dsimp only
    rw [C_8]
    exact rowScale_blk (hprev m c t ht _) _ _ (by omega) (by omega)

theorem blk9 (c : Dev nD) (t : Fin cfg0.N) (ht : 1 ≤ t.val) (y : S6x2x256.Idx) :
    (outsAt0 m c t.val t.isLt).2.2.2.2.1 y = colScale (Hm m c) (6 * (y 1).val + (y 0).val) (256 * (t.val - 1) + (y 2).val) := by
  have hN : t.val < 28 := lt_of_lt_of_eq t.isLt N_0
  have y0 : (y 0).val < 6 := (y 0).isLt
  have y1 : (y 1).val < 2 := (y 1).isLt
  have y2 : (y 2).val < 256 := (y 2).isLt
  by_cases h1 : t.val < 27
  · rw [outsAt0_B m c t (by omega) h1 (by omega)]
    dsimp only
    rw [B_9]
    exact colScale_blk (hprev m c t ht _) _ _ (by omega) (by omega)
  · rw [outsAt0_C m c t (by omega) h1 (by omega)]
    dsimp only
    rw [C_9]
    exact colScale_blk (hprev m c t ht _) _ _ (by omega) (by omega)

set_option maxRecDepth 100000 in
theorem ref5 (a : Vec Ideal S1536x2560 .bf16) (wg wu : Vec Ideal (⟨2, ![2560, 6912]⟩ : Shape) .fp8e4m3) (sg su : Vec Ideal S20x54 .f32) (i : (⟨3, ![2, 768, 6912]⟩ : Shape).Idx) :
    Cert.ReferenceIdeal.Value.G5 a wg wu sg su i = rowCode (Href a wg wu sg su) (768 * (i 0).val + (i 1).val) (i 2).val := by
  have e : i = ix3 (i 0) (i 1) (i 2) := by
    funext d
    fin_cases d <;> rfl
  generalize hx : i 0 = x0 at e ⊢
  generalize hy : i 1 = x1 at e ⊢
  generalize hz : i 2 = x2 at e ⊢
  subst e
  exact Cert.ReferenceIdeal.RefAt.G5_at a wg wu sg su x0 x1 x2

set_option maxRecDepth 100000 in
/-- Output 0 of the kernel is that of the reference. -/
theorem final5 (c : Dev nD) : (dats m 0 c).arrAt 5 cfg0.N = Cert.ReferenceIdeal.Value.G5 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : 1 ≤ t.val := (flush_pos t).1 hf
  have hi := (idx_out t).1
  blk_simp [hi]
  rw [after0_5]
  refine (blk5 m c t ht _).trans ?_
  refine Eq.trans ?_ (ref5 _ _ _ _ _ _).symm
  unfold Hm
  congr 1 <;> blk_simp [hi] <;> omega

set_option maxRecDepth 100000 in
theorem ref6 (a : Vec Ideal S1536x2560 .bf16) (wg wu : Vec Ideal (⟨2, ![2560, 6912]⟩ : Shape) .fp8e4m3) (sg su : Vec Ideal S20x54 .f32) (i : (⟨3, ![2, 6912, 768]⟩ : Shape).Idx) :
    Cert.ReferenceIdeal.Value.G6 a wg wu sg su i = colCode (Href a wg wu sg su) (768 * (i 0).val + (i 2).val) (i 1).val := by
  have e : i = ix3 (i 0) (i 1) (i 2) := by
    funext d
    fin_cases d <;> rfl
  generalize hx : i 0 = x0 at e ⊢
  generalize hy : i 1 = x1 at e ⊢
  generalize hz : i 2 = x2 at e ⊢
  subst e
  exact Cert.ReferenceIdeal.RefAt.G6_at a wg wu sg su x0 x1 x2

set_option maxRecDepth 100000 in
/-- Output 1 of the kernel is that of the reference. -/
theorem final6 (c : Dev nD) : (dats m 0 c).arrAt 6 cfg0.N = Cert.ReferenceIdeal.Value.G6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : 1 ≤ t.val := (flush_pos t).2.1 hf
  have hi := (idx_out t).2.1
  blk_simp [hi]
  rw [after0_6]
  refine (blk6 m c t ht _).trans ?_
  refine Eq.trans ?_ (ref6 _ _ _ _ _ _).symm
  unfold Hm
  congr 1 <;> blk_simp [hi] <;> omega

set_option maxRecDepth 100000 in
theorem ref7 (a : Vec Ideal S1536x2560 .bf16) (wg wu : Vec Ideal (⟨2, ![2560, 6912]⟩ : Shape) .fp8e4m3) (sg su : Vec Ideal S20x54 .f32) (i : (⟨2, ![1536, 6912]⟩ : Shape).Idx) :
    Cert.ReferenceIdeal.Value.G7 a wg wu sg su i = rowBack (Href a wg wu sg su) (i 0).val (i 1).val := by
  have e : i = ix2 (i 0) (i 1) := by
    funext d
    fin_cases d <;> rfl
  generalize hx : i 0 = x0 at e ⊢
  generalize hy : i 1 = x1 at e ⊢
  subst e
  exact Cert.ReferenceIdeal.RefAt.G7_at a wg wu sg su x0 x1

set_option maxRecDepth 100000 in
/-- Output 2 of the kernel is that of the reference. -/
theorem final7 (c : Dev nD) : (dats m 0 c).arrAt 7 cfg0.N = Cert.ReferenceIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht : 1 ≤ t.val := (flush_pos t).2.2.1 hf
  have hi := (idx_out t).2.2.1
  blk_simp [hi]
  rw [after0_7]
  refine (blk7 m c t ht _).trans ?_
  refine Eq.trans ?_ (ref7 _ _ _ _ _ _).symm
  unfold Hm
  congr 1 <;> blk_simp [hi] <;> omega

set_option maxRecDepth 100000 in
theorem ref8 (a : Vec Ideal S1536x2560 .bf16) (wg wu : Vec Ideal (⟨2, ![2560, 6912]⟩ : Shape) .fp8e4m3) (sg su : Vec Ideal S20x54 .f32) (i : (⟨3, ![54, 2, 768]⟩ : Shape).Idx) :
    Cert.ReferenceIdeal.Value.G8 a wg wu sg su i = rowScale (Href a wg wu sg su) (768 * (i 1).val + (i 2).val) (i 0).val := by
  have e : i = ix3 (i 0) (i 1) (i 2) := by
    funext d
    fin_cases d <;> rfl
  generalize hx : i 0 = x0 at e ⊢
  generalize hy : i 1 = x1 at e ⊢
  generalize hz : i 2 = x2 at e ⊢
  subst e
  exact Cert.ReferenceIdeal.RefAt.G8_at a wg wu sg su x0 x1 x2

set_option maxRecDepth 100000 in
/-- Output 3 of the kernel is that of the reference. -/
theorem final8 (c : Dev nD) : (dats m 0 c).arrAt 8 cfg0.N = Cert.ReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have ht : 1 ≤ t.val := (flush_pos t).2.2.2.1 hf
  have hi := (idx_out t).2.2.2.1
  blk_simp [hi]
  rw [after0_8]
  refine (blk8 m c t ht _).trans ?_
  refine Eq.trans ?_ (ref8 _ _ _ _ _ _).symm
  unfold Hm
  congr 1 <;> blk_simp [hi] <;> omega

set_option maxRecDepth 100000 in
theorem ref9 (a : Vec Ideal S1536x2560 .bf16) (wg wu : Vec Ideal (⟨2, ![2560, 6912]⟩ : Shape) .fp8e4m3) (sg su : Vec Ideal S20x54 .f32) (i : (⟨3, ![6, 2, 6912]⟩ : Shape).Idx) :
    Cert.ReferenceIdeal.Value.G9 a wg wu sg su i = colScale (Href a wg wu sg su) (6 * (i 1).val + (i 0).val) (i 2).val := by
  have e : i = ix3 (i 0) (i 1) (i 2) := by
    funext d
    fin_cases d <;> rfl
  generalize hx : i 0 = x0 at e ⊢
  generalize hy : i 1 = x1 at e ⊢
  generalize hz : i 2 = x2 at e ⊢
  subst e
  exact Cert.ReferenceIdeal.RefAt.G9_at a wg wu sg su x0 x1 x2

set_option maxRecDepth 100000 in
/-- Output 4 of the kernel is that of the reference. -/
theorem final9 (c : Dev nD) : (dats m 0 c).arrAt 9 cfg0.N = Cert.ReferenceIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have ht : 1 ≤ t.val := (flush_pos t).2.2.2.2 hf
  have hi := (idx_out t).2.2.2.2
  blk_simp [hi]
  rw [after0_9]
  refine (blk9 m c t ht _).trans ?_
  refine Eq.trans ?_ (ref9 _ _ _ _ _ _).symm
  unfold Hm
  congr 1 <;> blk_simp [hi] <;> omega

end Cert.KernelIdeal.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Final
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Over the extended reals the kernel and the reference leave the same five arrays. -/
theorem algebraic : Cert.algebraic_KernelIdeal_ReferenceIdeal := by
  intro m g m' g' _ hag
  refine ⟨_, _, _, _, _, Cert.KernelIdeal.Value.run_blocks m g, ?_⟩
  refine (θ_run _ _ _).mono (fun r h c => ?_) (Cert.ReferenceIdeal.Value.run m' g')
  obtain ⟨h0, h1, h2, h3, h4, k0, k1, k2, k3, k4⟩ := h c
  obtain ⟨a0, a1, a2, a3, a4⟩ := hag c
  rw [a0, a1, a2, a3, a4] at h0 h1 h2 h3 h4
  exact ⟨h0.trans (Cert.KernelIdeal.Final.final5 m c).symm, h1.trans (Cert.KernelIdeal.Final.final6 m c).symm,
    h2.trans (Cert.KernelIdeal.Final.final7 m c).symm, h3.trans (Cert.KernelIdeal.Final.final8 m c).symm,
    h4.trans (Cert.KernelIdeal.Final.final9 m c).symm, k0, k1, k2, k3, k4⟩

/-- The frames of the three programs, `preserves` (no rewrites to record), and `algebraic`. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Gen.frame m g, trivial, algebraic⟩

end Cert.Proof

end
